-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S8x32x32x32 : Shape := ⟨4, ![8, 32, 32, 32]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S32x8192 : Shape := ⟨2, ![32, 8192]⟩
abbrev S8192x4x2048 : Shape := ⟨3, ![8192, 4, 2048]⟩
abbrev S8192x4 : Shape := ⟨2, ![8192, 4]⟩
abbrev S8192x4x1 : Shape := ⟨3, ![8192, 4, 1]⟩

class Facts : Prop where
  transposes_S8x32x32x32_S8x32x32x32_0_2_3_1 : S8x32x32x32.Transposes [0, 2, 3, 1] S8x32x32x32
  shapeCasts_S8x32x32x32_S8192x32 : S8x32x32x32.ShapeCasts S8192x32
  reducesTo_S8192x32_S8192_d1 : S8192x32.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x32_S32x8192_1_0 : S8192x32.Transposes [1, 0] S32x8192
  bcast_S_S8192x8192 : S_.BroadcastsInDim S8192x8192 (![] : Fin 0 → Fin S8192x8192.rank)
  shapeCasts_S8192x8192_S8192x4x2048 : S8192x8192.ShapeCasts S8192x4x2048
  reducesTo_S8192x4x2048_S8192x4_d2 : S8192x4x2048.ReducesTo [2] S8192x4
  bcast_S8192x4_S8192x4x1_0_1 : S8192x4.BroadcastsInDim S8192x4x1 (![0, 1] : Fin 2 → Fin S8192x4x1.rank)
  bcast_S8192x4x1_S8192x4x2048_0_1_2 : S8192x4x1.BroadcastsInDim S8192x4x2048 (![0, 1, 2] : Fin 3 → Fin S8192x4x2048.rank)
  natLt_1_32 : 1 < 32
  bcast_S_S8192x4 : S_.BroadcastsInDim S8192x4 (![] : Fin 0 → Fin S8192x4.rank)
  dot_S8192x32_S32x8192_S8192x8192_1_0_0_1_n_n_wf : DotDims.WF S8192x32 S32x8192 S8192x8192 [1] [0] [0] [1] [] []

variable [Facts]

def dot_S8192x32_S32x8192_S8192x8192_1_0_0_1_n_n : DotDims S8192x32 S32x8192 S8192x8192 where
  lhsContracting := [1]
  rhsContracting := [0]
  lhsNonContracting := [0]
  rhsNonContracting := [1]
  lhsBatch := []
  rhsBatch := []
  wf := dot_S8192x32_S32x8192_S8192x8192_1_0_0_1_n_n_wf
def fn_part1 {F : FTy → Type} [FloatOps F] (main_v16 : FVec F S8192x4x2048 .f32) (main_v19 : FVec F S8192x4x2048 .f32) : IVec S8192x4 1 :=
  let main_v20 : IVec S8192x4x2048 1 := cmpf .oeq main_v16 main_v19
  let main_v21 : IVec S8192x4x2048 32 := (extui 32 · natLt_1_32) main_v20
  let main_c : IVec S_ 32 := constantI S_ 32 0#32
  let main_v22 : IVec S8192x4 32 := (fun x v => Host.reduce IntOp.addi x v reducesTo_S8192x4x2048_S8192x4_d2 h_S_) main_v21 main_c
  let main_c_3 : IVec S_ 32 := constantI S_ 32 1#32
  let main_v23 : IVec S8192x4 32 := broadcastInDim S8192x4 ![] bcast_S_S8192x4 main_c_3
  let main_v24 : IVec S8192x4 1 := cmpi .eq main_v22 main_v23
  main_v24

def fn {F : FTy → Type} [FloatOps F] (main_arg0 : FVec F S8x32x32x32 .f32) (main_arg1 : FVec F S8192x32 .f32) : IVec S8192x4 1 :=
  let main_v0 : FVec F S8x32x32x32 .f32 := (transpose S8x32x32x32 [0, 2, 3, 1] · transposes_S8x32x32x32_S8x32x32x32_0_2_3_1) main_arg0
  let main_v1 : FVec F S8192x32 .f32 := shapeCast S8192x32 main_v0 shapeCasts_S8x32x32x32_S8192x32
  let main_v2 : FVec F S8192x32 .f32 := mulf main_v1 main_v1
  let main_cst : FVec F S_ .f32 := constant S_ .f32 0x00000000#32
  let main_v3 : FVec F S8192 .f32 := (fun x v => Host.reduceAdd x v reducesTo_S8192x32_S8192_d1 h_S_) main_v2 main_cst
  let main_v4 : FVec F S8192x1 .f32 := broadcastInDim S8192x1 ![0] bcast_S8192_S8192x1_0 main_v3
  let main_v5 : FVec F S8192x32 .f32 := mulf main_arg1 main_arg1
  let main_cst_0 : FVec F S_ .f32 := constant S_ .f32 0x00000000#32
  let main_v6 : FVec F S8192 .f32 := (fun x v => Host.reduceAdd x v reducesTo_S8192x32_S8192_d1 h_S_) main_v5 main_cst_0
  let main_v7 : FVec F S1x8192 .f32 := broadcastInDim S1x8192 ![1] bcast_S8192_S1x8192_1 main_v6
  let main_v8 : FVec F S8192x8192 .f32 := broadcastInDim S8192x8192 ![0, 1] bcast_S8192x1_S8192x8192_0_1 main_v4
  let main_v9 : FVec F S8192x8192 .f32 := broadcastInDim S8192x8192 ![0, 1] bcast_S1x8192_S8192x8192_0_1 main_v7
  let main_v10 : FVec F S8192x8192 .f32 := addf main_v8 main_v9
  let main_v11 : FVec F S32x8192 .f32 := (transpose S32x8192 [1, 0] · transposes_S8192x32_S32x8192_1_0) main_arg1
  let main_v12 : FVec F S8192x8192 .f32 := (fun l r => Host.dotGeneral dot_S8192x32_S32x8192_S8192x8192_1_0_0_1_n_n none l r) main_v1 main_v11
  let main_cst_1 : FVec F S_ .f32 := constant S_ .f32 0x40000000#32
  let main_v13 : FVec F S8192x8192 .f32 := broadcastInDim S8192x8192 ![] bcast_S_S8192x8192 main_cst_1
  let main_v14 : FVec F S8192x8192 .f32 := mulf main_v13 main_v12
  let main_v15 : FVec F S8192x8192 .f32 := subf main_v10 main_v14
  let main_v16 : FVec F S8192x4x2048 .f32 := shapeCast S8192x4x2048 main_v15 shapeCasts_S8192x8192_S8192x4x2048
  let main_cst_2 : FVec F S_ .f32 := constant S_ .f32 0x7F800000#32
  let main_v17 : FVec F S8192x4 .f32 := (fun x v => Host.reduce FloatOps.minimumf x v reducesTo_S8192x4x2048_S8192x4_d2 h_S_) main_v16 main_cst_2
  let main_v18 : FVec F S8192x4x1 .f32 := broadcastInDim S8192x4x1 ![0, 1] bcast_S8192x4_S8192x4x1_0_1 main_v17
  let main_v19 : FVec F S8192x4x2048 .f32 := broadcastInDim S8192x4x2048 ![0, 1, 2] bcast_S8192x4x1_S8192x4x2048_0_1_2 main_v18
  fn_part1 (F := F) main_v16 main_v19
-- ==== Kernel.lean ====
abbrev S8x32x32x32 : Shape := ⟨4, ![8, 32, 32, 32]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S512x32 : Shape := ⟨2, ![512, 32]⟩
abbrev S512x1 : Shape := ⟨2, ![512, 1]⟩
abbrev S2048x32 : Shape := ⟨2, ![2048, 32]⟩
abbrev S1x2048 : Shape := ⟨2, ![1, 2048]⟩
abbrev S512x2048 : Shape := ⟨2, ![512, 2048]⟩
abbrev S512 : Shape := ⟨1, ![512]⟩
abbrev S8x32x32 : Shape := ⟨3, ![8, 32, 32]⟩

abbrev nBuf : Space → Nat
  | .hbm => 17
  | .vmem => 10
  | .smem => 0
  | _ => 0

abbrev bufTy : (tb : Table) → Fin (tcTables nBuf tb) → BufTy
  | .hbm, ⟨0, _⟩ => ⟨S8x32x32x32, .f32⟩
  | .hbm, ⟨1, _⟩ => ⟨S8192x32, .f32⟩
  | .hbm, ⟨2, _⟩ => ⟨S8x32x32x32, .f32⟩
  | .hbm, ⟨3, _⟩ => ⟨S8192x32, .f32⟩
  | .hbm, ⟨4, _⟩ => ⟨S8192x32, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x32, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S8192x32, .f32⟩
  | .hbm, ⟨13, _⟩ => ⟨S8192x1, .i32⟩
  | .hbm, ⟨14, _⟩ => ⟨S8x32x32x32, .f32⟩
  | .hbm, ⟨15, _⟩ => ⟨S8x32x32x32, .f32⟩
  | .hbm, ⟨16, _⟩ => ⟨S8x32x32, .i32⟩
  | .local _ .vmem, ⟨0, _⟩ => ⟨S512x32, .f32⟩
  | .local _ .vmem, ⟨1, _⟩ => ⟨S512x32, .f32⟩
  | .local _ .vmem, ⟨2, _⟩ => ⟨S512x1, .f32⟩
  | .local _ .vmem, ⟨3, _⟩ => ⟨S512x1, .f32⟩
  | .local _ .vmem, ⟨4, _⟩ => ⟨S8192x32, .f32⟩
  | .local _ .vmem, ⟨5, _⟩ => ⟨S1x8192, .f32⟩
  | .local _ .vmem, ⟨6, _⟩ => ⟨S512x32, .f32⟩
  | .local _ .vmem, ⟨7, _⟩ => ⟨S512x32, .f32⟩
  | .local _ .vmem, ⟨8, _⟩ => ⟨S512x1, .i32⟩
  | .local _ .vmem, ⟨9, _⟩ => ⟨S512x1, .i32⟩
  | _, _ => ⟨S8x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x32x32x32 : Shape := ⟨4, ![8, 32, 32, 32]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S32x8192 : Shape := ⟨2, ![32, 8192]⟩
abbrev S1 : Shape := ⟨1, ![1]⟩
abbrev S1x1 : Shape := ⟨2, ![1, 1]⟩
abbrev S8x32x32 : Shape := ⟨3, ![8, 32, 32]⟩

abbrev nBuf : Space → Nat
  | .hbm => 54
  | .vmem => 0
  | .smem => 0
  | _ => 0

abbrev bufTy : (tb : Table) → Fin (tcTables nBuf tb) → BufTy
  | .hbm, ⟨0, _⟩ => ⟨S8x32x32x32, .f32⟩
  | .hbm, ⟨1, _⟩ => ⟨S8192x32, .f32⟩
  | .hbm, ⟨2, _⟩ => ⟨S8x32x32x32, .f32⟩
  | .hbm, ⟨3, _⟩ => ⟨S8192x32, .f32⟩
  | .hbm, ⟨4, _⟩ => ⟨S8192x32, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x32, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S32x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x8192, .i32⟩
  | .hbm, ⟨22, _⟩ => ⟨S_, .f32⟩
  | .hbm, ⟨23, _⟩ => ⟨S_, .i32⟩
  | .hbm, ⟨24, _⟩ => ⟨S8192, .f32⟩
  | .hbm, ⟨25, _⟩ => ⟨S8192, .i32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S8192x1, .i32⟩
  | .hbm, ⟨34, _⟩ => ⟨S1, .i32⟩
  | .hbm, ⟨35, _⟩ => ⟨S_, .i32⟩
  | .hbm, ⟨36, _⟩ => ⟨S8192x1, .i32⟩
  | .hbm, ⟨37, _⟩ => ⟨S8192x1, .i1⟩
  | .hbm, ⟨38, _⟩ => ⟨S1x1, .i32⟩
  | .hbm, ⟨39, _⟩ => ⟨S8192x1, .i32⟩
  | .hbm, ⟨40, _⟩ => ⟨S8192x1, .i1⟩
  | .hbm, ⟨41, _⟩ => ⟨S8192x1, .i1⟩
  | .hbm, ⟨42, _⟩ => ⟨S_, .i1⟩
  | .hbm, ⟨43, _⟩ => ⟨S8192, .i1⟩
  | .hbm, ⟨44, _⟩ => ⟨S8192x32, .f32⟩
  | .hbm, ⟨45, _⟩ => ⟨S8192x32, .i1⟩
  | .hbm, ⟨46, _⟩ => ⟨S_, .f32⟩
  | .hbm, ⟨47, _⟩ => ⟨S8192x32, .f32⟩
  | .hbm, ⟨48, _⟩ => ⟨S8192x32, .f32⟩
  | .hbm, ⟨49, _⟩ => ⟨S8x32x32x32, .f32⟩
  | .hbm, ⟨50, _⟩ => ⟨S8x32x32x32, .f32⟩
  | .hbm, ⟨51, _⟩ => ⟨S8x32x32x32, .f32⟩
  | .hbm, ⟨52, _⟩ => ⟨S8x32x32, .i32⟩
  | .hbm, ⟨53, _⟩ => ⟨S8x32x32x32, .f32⟩
  | _, _ => ⟨S8x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩

abbrev nD : Nat := 1
abbrev τ : Topo := Topo.v7x

variable {F : FTy → Type} [FloatOps F]
-- ==== Proof.ArgMin.lean ====
/-
  THE FIRST PLACE OF A LEAST VALUE, and the operations that find it, hand-written and untrusted.

  A row of distances is a function `f : Fin n → EReal`. `FirstMinOn f a b k` says that `k` is the first place between
  `a` and `b` at which `f` is least there; such a place exists and there is only one. Two operations are read through it
  here: the kernel's search for a place along the lanes of a block (`Ideal.reduceIndex`) and its minimum along the lanes.
  The reference's reduction of (value, index) pairs is read through it in Proof/RefValue. `FirstMinOn.append` is the step by which the
  kernel puts its four chunks of codes together.
-/
module

public import Idealize.ShloMosaic.Lib.Pointwise
public import Idealize.ShloMosaic.PureOps.Ideal.Laws

@[expose] public section

set_option maxRecDepth 16384

noncomputable section

namespace Cert.Proof.ArgMin

open Idealize.ShloMosaic

/-- `k` is the first of the places from `a` up to (not including) `b` at which `f` is least among them. -/
def FirstMinOn {n : Nat} (f : Fin n → EReal) (a b : Nat) (k : Fin n) : Prop :=
  a ≤ k.val ∧ k.val < b ∧ (∀ j : Fin n, a ≤ j.val → j.val < b → f k ≤ f j) ∧ ∀ j : Fin n, a ≤ j.val → j < k → f k < f j

/-- `k` is the first place at which `f` is least. -/
abbrev IsFirstMin {n : Nat} (f : Fin n → EReal) (k : Fin n) : Prop := FirstMinOn f 0 n k

section FirstMin
variable {n : Nat} {f : Fin n → EReal}

/-- There is only one first place of the least value. -/
theorem FirstMinOn.unique {a b : Nat} {k l : Fin n} (hk : FirstMinOn f a b k) (hl : FirstMinOn f a b l) : k = l := by
  obtain ⟨k1, k2, k3, k4⟩ := hk
  obtain ⟨l1, l2, l3, l4⟩ := hl
  rcases lt_trichotomy k l with h | h | h
  · exact absurd (l4 k k1 h) (not_lt.mpr (k3 l l1 l2))
  · exact h
  · exact absurd (k4 l l1 h) (not_lt.mpr (l3 k k1 k2))

/-- What the first place of a whole row says, without the bounds that hold of every place. -/
theorem isFirstMin_iff {k : Fin n} : IsFirstMin f k ↔ (∀ j, f k ≤ f j) ∧ ∀ j, j < k → f k < f j :=
  ⟨fun h => ⟨fun j => h.2.2.1 j (Nat.zero_le _) j.isLt, fun j => h.2.2.2 j (Nat.zero_le _)⟩,
    fun h => ⟨Nat.zero_le _, k.isLt, fun j _ _ => h.1 j, fun j _ => h.2 j⟩⟩

/-- A row that is not empty has a first place of its least value. -/
theorem exists_isFirstMin (hn : 0 < n) (f : Fin n → EReal) : ∃ k, IsFirstMin f k := by
  obtain ⟨k0, -, h0⟩ := Finset.exists_min_image Finset.univ f ⟨⟨0, hn⟩, Finset.mem_univ _⟩
  have hne : (Finset.univ.filter fun k : Fin n => ∀ j, f k ≤ f j).Nonempty :=
    ⟨k0, Finset.mem_filter.2 ⟨Finset.mem_univ _, fun j => h0 j (Finset.mem_univ _)⟩⟩
  refine ⟨_, isFirstMin_iff.2 ⟨(Finset.mem_filter.1 (Finset.min'_mem _ hne)).2, fun j hj => ?_⟩⟩
  by_contra hle
  refine absurd (Finset.min'_le _ j ?_) (not_le.mpr hj)
  refine Finset.mem_filter.2 ⟨Finset.mem_univ _, fun i => (not_lt.mp hle).trans ?_⟩
  exact (Finset.mem_filter.1 (Finset.min'_mem _ hne)).2 i

/-- The first place of a chunk's least value, read in the whole row: the chunk starts at place `a`. -/
theorem FirstMinOn.of_chunk {m : Nat} {g : Fin m → EReal} {a : Nat} (ha : a + m ≤ n)
    (hg : ∀ j : Fin m, g j = f ⟨a + j.val, by omega⟩) {k : Fin m} (hk : IsFirstMin g k) :
    FirstMinOn f a (a + m) ⟨a + k.val, by omega⟩ := by
  have hk := isFirstMin_iff.1 hk
  have e (j : Fin n) (h1 : a ≤ j.val) (h2 : j.val < a + m) : f j = g ⟨j.val - a, by omega⟩ := by
    rw [hg]; exact congrArg f (Fin.ext (by simp; omega))
  refine ⟨Nat.le_add_right _ _, by simp, fun j h1 h2 => ?_, fun j h1 h2 => ?_⟩
  · rw [← hg k, e j h1 h2]; exact hk.1 _
  · have h2' : j.val < a + k.val := h2
    rw [← hg k, e j h1 (by omega)]
    exact hk.2 _ (by show j.val - a < k.val; omega)

/-- Two neighbouring stretches put together: the first stretch's place is kept unless the second's value is strictly less. -/
theorem FirstMinOn.append {a b c : Nat} {k l : Fin n} (hk : FirstMinOn f a b k) (hl : FirstMinOn f b c l) :
    FirstMinOn f a c (if f k ≤ f l then k else l) := by
  obtain ⟨k1, k2, k3, k4⟩ := hk
  obtain ⟨l1, l2, l3, l4⟩ := hl
  split
  next h =>
    refine ⟨k1, by omega, fun j h1 h2 => ?_, k4⟩
    by_cases hj : j.val < b
    · exact k3 j h1 hj
    · exact h.trans (l3 j (by omega) h2)
  next h =>
    have h := not_le.mp h
    refine ⟨by omega, l2, fun j h1 h2 => ?_, fun j h1 h2 => ?_⟩
    · by_cases hj : j.val < b
      · exact h.le.trans (k3 j h1 hj)
      · exact l3 j (by omega) h2
    · by_cases hj : j.val < b
      · exact h.trans_le (k3 j h1 hj)
      · exact l4 j (by omega) h2

/-- The value kept beside the place when two stretches are put together is the row's value at that place. -/
theorem ite_value (k l : Fin n) : (if f k ≤ f l then f k else f l) = f (if f k ≤ f l then k else l) := by
  split <;> rfl

end FirstMin

/-! ## The kernel's two searches along the lanes -/

section Lanes
variable {m n : Nat}

/-- The least lane among the entries of row `r` that have the row's least value is the first place of that value. -/
theorem min_lane (x : (⟨2, ![m, n]⟩ : Shape).Idx → EReal) (r : Fin m) (k : Fin n) (hk : IsFirstMin (fun j => x (ix2 r j)) k)
    (E : Finset (⟨2, ![m, n]⟩ : Shape).Idx)
    (hE : ∀ i, i ∈ E ↔ (∃ j : Fin n, ix2 r j = i) ∧ ∀ j : Fin n, x i ≤ x (ix2 r j)) :
    (E.image fun i => (i 1).val).min = (k.val : WithTop Nat) := by
  have hk := isFirstMin_iff.1 hk
  refine le_antisymm ?_ ?_
  · exact Finset.min_le (Finset.mem_image.2 ⟨ix2 r k, (hE _).2 ⟨⟨k, rfl⟩, hk.1⟩, rfl⟩)
  · refine Finset.le_min fun p hp => ?_
    obtain ⟨i, hi, rfl⟩ := Finset.mem_image.1 hp
    obtain ⟨⟨j, rfl⟩, hb⟩ := (hE _).1 hi
    exact WithTop.coe_le_coe.2 (not_lt.mp fun hlt => absurd (hk.2 j hlt) (not_lt.mpr (hb k)))

/-- The place that the kernel's search along the lanes gives for row `r` is the first place of the row's least value. -/
theorem reduceIndex_argMin (h : (⟨2, ![m, n]⟩ : Shape).Reduces [1] ⟨1, ![m]⟩) (x : (⟨2, ![m, n]⟩ : Shape).Idx → EReal)
    (r : Fin m) (k : Fin n) (hk : IsFirstMin (fun j => x (ix2 r j)) k) :
    Ideal.reduceIndex .argMin 1 h x (ix1 r) = BitVec.ofNat 32 k.val := by
  have hmem (i : (⟨2, ![m, n]⟩ : Shape).Idx) : h.drop i = ix1 r ↔ ∃ j : Fin n, ix2 r j = i := h.fiber_r2_a1 (ix1 r) i
  unfold Ideal.reduceIndex
  dsimp only
  rw [min_lane x r k hk _ fun i => ?_]
  · rfl
  · simp only [Finset.mem_filter, Finset.mem_univ, true_and, hmem, reduceCtorEq, if_false, not_lt]
    exact and_congr_right fun _ => ⟨fun h j => h _ ⟨j, rfl⟩, fun h i' ⟨j, e⟩ => e ▸ h j⟩

/-- The least of a row's values, taken from `⊤` by a fold of `min`, is the value at the first place of the least value. -/
theorem fold_min_eq {f : Fin n → EReal} {k : Fin n} (hk : IsFirstMin f k) :
    (Finset.univ : Finset (Fin n)).fold min ⊤ f = f k := by
  have hk := isFirstMin_iff.1 hk
  refine le_antisymm ?_ ?_
  · exact Finset.fold_min_le (c := f k) |>.2 (.inr ⟨k, Finset.mem_univ _, le_rfl⟩)
  · exact Finset.le_fold_min (c := f k) |>.2 ⟨le_top, fun j _ => hk.1 j⟩

end Lanes

end Cert.Proof.ArgMin

end
-- ==== Proof.KernelBlock.lean ====
/-
  ONE BLOCK OF THE KERNEL, hand-written and untrusted.

  The body searches the codes in four chunks of 2048: in each the least distance and its place, kept or replaced by
  comparison with the chunks before. The index it stores is the first place of the least distance among all codes
  (`index_apply`). It then sums, over the chunks, the product of a matrix of ones and zeros with the codes; of these four
  summands one is the code found and the others are zero (`stored_apply`).
-/
module

public import proofs.«01_k».proof.Proof.Gen.KernelIdeal.Frame
public import proofs.«01_k».proof.Proof.ArgMin
public import Idealize.ShloMosaic.Lib.Pipeline.ValueKit

@[expose] public section

set_option maxRecDepth 16384

noncomputable section

namespace Cert.KernelIdeal.Block

open Cert.KernelIdeal Cert.KernelIdeal.Gen Cert.Proof.ArgMin
open Idealize.ShloMosaic Idealize.ShloMosaic.TcCoe

/-- The least value of each row of a chunk of distances. -/
def chunkMin (X : FVec Ideal S512x2048 .f32) : FVec Ideal S512x1 .f32 :=
  shapeCast S512x1 (multiReduction .minimumf [1] S512 X 0x7F800000#32 reduces_S512x2048_S512 (.inl rfl) rfl) shapeCasts_S512_S512x1

/-- The place of the least value of each row of a chunk of distances, counted from the chunk's offset `o`. -/
def chunkArg (o : BitVec 32) (X : FVec Ideal S512x2048 .f32) : IVec S512x1 32 :=
  shapeCast S512x1 (addi (reduceIndex .argMin 1 S512 X reduces_S512x2048_S512) (broadcast S512 o)) shapeCasts_S512_S512x1

/-- Where the least value so far stays: where it is no greater than the next chunk's. -/
def keeps (m n : FVec Ideal S512x1 .f32) : IVec S512x1 1 :=
  cmpf .ole (extf .f32 (truncf .bf16 m bitsLt_bf16_f32) bitsLt_bf16_f32) n

/-- Row by row, a one at the place that the index names (counted from the offset `o`) and zeros elsewhere. -/
def oneHot (o : BitVec 32) (i : IVec S512x1 32) : FVec Ideal S512x2048 .bf16 :=
  truncf .bf16 (sitofp .f32 (extui 32 (cmpi .eq (broadcastTo S512x2048 i broadcasts_S512x1_S512x2048)
    (addi (iota .tc S512x2048 32 [1] iota_S512x2048_d1_w32) (broadcast S512x2048 o))) natLt_1_32)) bitsLt_bf16_f32

/-! ## The operations at an index -/

/-- The least value of a row is the value at its first place. -/
theorem chunkMin_apply (X : FVec Ideal S512x2048 .f32) (r : Fin 512) (k : Fin 2048)
    (hk : IsFirstMin (fun j => (X (ix2 r j) : EReal)) k) : chunkMin X (ix2 r 0) = X (ix2 r k) := by
  have htop : Ideal.ofBits .f32 0x7F800000#32 = ⊤ := by simp [Ideal.ofBits, Ideal.ieee]
  unfold chunkMin
  pointwise
  rw [htop]
  exact fold_min_eq hk

/-- The place of the least value of a row is its first place, counted from the offset. -/
theorem chunkArg_apply (o : BitVec 32) (X : FVec Ideal S512x2048 .f32) (r : Fin 512) (k : Fin 2048)
    (hk : IsFirstMin (fun j => (X (ix2 r j) : EReal)) k) : chunkArg o X (ix2 r 0) = BitVec.ofNat 32 k.val + o := by
  unfold chunkArg
  pointwise
  exact congrArg (· + o) (reduceIndex_argMin reduces_S512x2048_S512 X r k hk)

/-- The choice between the least value so far and the next chunk's, at a row: the former where it is no greater. -/
theorem select_keeps {α : Type} (m n : FVec Ideal S512x1 .f32) (a b : S512x1.Idx → α) (i : S512x1.Idx) :
    select (keeps m n) a b i = if (m i : EReal) ≤ n i then a i else b i := by
  unfold keeps
  pointwise

/-- A one where the index names the place, a zero elsewhere. -/
theorem oneHot_apply (o : BitVec 32) (i : IVec S512x1 32) (r : Fin 512) (j : Fin 2048) :
    oneHot o i (ix2 r j) = if i (ix2 r 0) = BitVec.ofNat 32 j.val + o then (1 : EReal) else 0 := by
  unfold oneHot
  pointwise
  show (((BitVec.setWidth 32 (IntOp.cmpi .eq (i (ix2 r 0)) (BitVec.ofNat 32 j.val + o))).toInt : ℝ) : EReal) = _
  by_cases h : i (ix2 r 0) = BitVec.ofNat 32 j.val + o
  · simp [IntOp.cmpi, h]
  · have hb : (i (ix2 r 0) == BitVec.ofNat 32 j.val + o) = false := beq_eq_false_iff_ne.2 h
    simp [IntOp.cmpi, h, hb]

/-- A block of distances, at a row and a code of the chunk. -/
theorem pay8_apply (a : FVec Ideal S512x32 .f32) (b : FVec Ideal S512x1 .f32) (c : FVec Ideal S2048x32 .f32) (e : FVec Ideal S1x2048 .f32)
    (r : Fin 512) (j : Fin 2048) : k0_pay8 a b c e (ix2 r j)
      = (b (ix2 r 0) + e (ix2 0 j)) - FloatOps.ofBits .f32 0x40000000#32 * ∑ d : Fin 32, a (ix2 r d) * c (ix2 j d) := by
  unfold k0_pay8 k0_pay4 k0_pay3 k0_pay2
  pointwise

/-! ## The indices of a block -/

section Spelt
variable (x0 : Vec Ideal S512x32 .f32) (x1 : Vec Ideal S512x1 .f32) (x2 : Vec Ideal S8192x32 .f32) (x3 : Vec Ideal S1x8192 .f32)

/-- The codes of the chunk at offset `o`. -/
def codes (o : Nat) (h2 : ∀ a, ![o, 0] a + S2048x32.size a ≤ S8192x32.size a) : Vec Ideal S2048x32 .f32 :=
  View.ld (Val := Elt Ideal) x2 (Rect.unit (s := S8192x32) ![o, 0] S2048x32.size h2)

/-- They are the codebook's rows from `o` on. -/
theorem codes_apply (o : Nat) (h2 : ∀ a, ![o, 0] a + S2048x32.size a ≤ S8192x32.size a) (j : Fin 2048) (ho : o + j.val < 8192) (d : Fin 32) :
    codes x2 o h2 (ix2 j d) = x2 (ix2 ⟨o + j.val, ho⟩ d) := by
  refine View.ld_unit_apply_of (Val := Elt Ideal) x2 _ _ h2 _ _ fun a => ?_
  match a with
  | ⟨0, _⟩ => rfl
  | ⟨1, _⟩ => exact (Nat.zero_add _).symm

/-- The distances of the block's rows to the codes of the chunk at offset `o`. -/
def chunk (o : Nat) (h2 : ∀ a, ![o, 0] a + S2048x32.size a ≤ S8192x32.size a)
    (h3 : ∀ a, ![0, o] a + S1x2048.size a ≤ S1x8192.size a) : FVec Ideal S512x2048 .f32 :=
  k0_pay8 (View.ld (Val := Elt Ideal) x0 r0_0) (View.ld (Val := Elt Ideal) x1 r0_1) (codes x2 o h2)
    (View.ld (Val := Elt Ideal) x3 (Rect.unit (s := S1x8192) ![0, o] S1x2048.size h3))

/-- The first chunk of distances. -/
def chunk0 : FVec Ideal S512x2048 .f32 := chunk x0 x1 x2 x3 0 inb_S8192x32_S2048x32_0_0 inb_S1x8192_S1x2048_0_0
/-- The second chunk of distances. -/
def chunk1 : FVec Ideal S512x2048 .f32 := chunk x0 x1 x2 x3 2048 inb_S8192x32_S2048x32_2048_0 inb_S1x8192_S1x2048_0_2048
/-- The third. -/
def chunk2 : FVec Ideal S512x2048 .f32 := chunk x0 x1 x2 x3 4096 inb_S8192x32_S2048x32_4096_0 inb_S1x8192_S1x2048_0_4096
/-- The fourth. -/
def chunk3 : FVec Ideal S512x2048 .f32 := chunk x0 x1 x2 x3 6144 inb_S8192x32_S2048x32_6144_0 inb_S1x8192_S1x2048_0_6144

/-- The least values after two chunks. -/
def min2 : FVec Ideal S512x1 .f32 :=
  select (keeps (chunkMin (chunk0 x0 x1 x2 x3)) (chunkMin (chunk1 x0 x1 x2 x3))) (chunkMin (chunk0 x0 x1 x2 x3)) (chunkMin (chunk1 x0 x1 x2 x3))
/-- The least values after three chunks. -/
def min3 : FVec Ideal S512x1 .f32 :=
  select (keeps (min2 x0 x1 x2 x3) (chunkMin (chunk2 x0 x1 x2 x3))) (min2 x0 x1 x2 x3) (chunkMin (chunk2 x0 x1 x2 x3))
/-- The indices after two chunks, -/
def arg2 : IVec S512x1 32 :=
  select (keeps (chunkMin (chunk0 x0 x1 x2 x3)) (chunkMin (chunk1 x0 x1 x2 x3)))
    (chunkArg 0#32 (chunk0 x0 x1 x2 x3)) (chunkArg 2048#32 (chunk1 x0 x1 x2 x3))
/-- after three, -/
def arg3 : IVec S512x1 32 :=
  select (keeps (min2 x0 x1 x2 x3) (chunkMin (chunk2 x0 x1 x2 x3))) (arg2 x0 x1 x2 x3) (chunkArg 4096#32 (chunk2 x0 x1 x2 x3))
/-- and after four. -/
def arg4 : IVec S512x1 32 :=
  select (keeps (min3 x0 x1 x2 x3) (chunkMin (chunk3 x0 x1 x2 x3))) (arg3 x0 x1 x2 x3) (chunkArg 6144#32 (chunk3 x0 x1 x2 x3))

/-- The block's indices are those after the four chunks. -/
theorem index_spelt : k0_pay15 x0 x1 x2 x3 = arg4 x0 x1 x2 x3 := rfl

/-- The distance of a row of the block to a code. -/
def rowDist (r : Fin 512) (n : Fin 8192) : EReal :=
  ((x1 (ix2 r 0) : EReal) + x3 (ix2 0 n))
    - FloatOps.ofBits (F := Ideal) .f32 0x40000000#32 * ∑ d : Fin 32, (x0 (ix2 r d) : EReal) * x2 (ix2 n d)

/-- A chunk's distances are those to the codes from `o` on. -/
theorem chunk_apply (o : Nat) (h2 : ∀ a, ![o, 0] a + S2048x32.size a ≤ S8192x32.size a)
    (h3 : ∀ a, ![0, o] a + S1x2048.size a ≤ S1x8192.size a) (r : Fin 512) (j : Fin 2048) (ho : o + j.val < 8192) :
    chunk x0 x1 x2 x3 o h2 h3 (ix2 r j) = rowDist x0 x1 x2 x3 r ⟨o + j.val, ho⟩ := by
  have e3 : View.ld (Val := Elt Ideal) x3 (Rect.unit (s := S1x8192) ![0, o] S1x2048.size h3) (ix2 0 j) = x3 (ix2 0 ⟨o + j.val, ho⟩) := by
    refine View.ld_unit_apply_of (Val := Elt Ideal) x3 _ _ h3 _ _ fun a => ?_
    match a with
    | ⟨0, _⟩ => rfl
    | ⟨1, _⟩ => rfl
  have e0 : View.ld (Val := Elt Ideal) x0 r0_0 = x0 := View.ld_unit_lit _ _ (by decide)
  have e1 : View.ld (Val := Elt Ideal) x1 r0_1 = x1 := View.ld_unit_lit _ _ (by decide)
  unfold chunk rowDist
  rw [e0, e1]
  refine (pay8_apply _ _ _ _ r j).trans ?_
  rw [e3]
  simp only [codes_apply x2 o h2 j ho]

/-- What holds of the search after the codes from `0` up to `b`: the least value is that at the first place of the least
    value among them, and the index is that place. -/
def After (f : Fin 8192 → EReal) (a b : Nat) (v : EReal) (i : BitVec 32) : Prop :=
  ∃ k : Fin 8192, FirstMinOn f a b k ∧ v = f k ∧ i = BitVec.ofNat 32 k.val

/-- One chunk's search. -/
theorem after_chunk (o : Nat) (h2 : ∀ a, ![o, 0] a + S2048x32.size a ≤ S8192x32.size a)
    (h3 : ∀ a, ![0, o] a + S1x2048.size a ≤ S1x8192.size a) (ho : o + 2048 ≤ 8192) (r : Fin 512) :
    After (rowDist x0 x1 x2 x3 r) o (o + 2048) (chunkMin (chunk x0 x1 x2 x3 o h2 h3) (ix2 r 0))
      (chunkArg (BitVec.ofNat 32 o) (chunk x0 x1 x2 x3 o h2 h3) (ix2 r 0)) := by
  obtain ⟨k, hk⟩ := exists_isFirstMin (by decide : 0 < 2048) fun j : Fin 2048 => (chunk x0 x1 x2 x3 o h2 h3 (ix2 r j) : EReal)
  refine ⟨⟨o + k.val, by omega⟩, FirstMinOn.of_chunk ho (fun j => chunk_apply x0 x1 x2 x3 o h2 h3 r j (by omega)) hk, ?_, ?_⟩
  · rw [chunkMin_apply _ r k hk, chunk_apply x0 x1 x2 x3 o h2 h3 r k (by omega)]
  · rw [chunkArg_apply _ _ r k hk, ← BitVec.ofNat_add, Nat.add_comm]

/-- Two searches put together. -/
theorem After.append {f : Fin 8192 → EReal} {a b c : Nat} {v w : EReal} {i j : BitVec 32} (h : After f a b v i) (h' : After f b c w j) :
    After f a c (if v ≤ w then v else w) (if v ≤ w then i else j) := by
  obtain ⟨k, hk, rfl, rfl⟩ := h
  obtain ⟨l, hl, rfl, rfl⟩ := h'
  refine ⟨_, hk.append hl, ite_value k l, ?_⟩
  split <;> rfl

/-- Row by row, the block's index is the first place of the least distance. -/
theorem index_apply (r : Fin 512) :
    ∃ k : Fin 8192, IsFirstMin (rowDist x0 x1 x2 x3 r) k ∧ k0_pay15 x0 x1 x2 x3 (ix2 r 0) = BitVec.ofNat 32 k.val := by
  have c0 := after_chunk x0 x1 x2 x3 0 inb_S8192x32_S2048x32_0_0 inb_S1x8192_S1x2048_0_0 (by decide) r
  have c1 := after_chunk x0 x1 x2 x3 2048 inb_S8192x32_S2048x32_2048_0 inb_S1x8192_S1x2048_0_2048 (by decide) r
  have c2 := after_chunk x0 x1 x2 x3 4096 inb_S8192x32_S2048x32_4096_0 inb_S1x8192_S1x2048_0_4096 (by decide) r
  have c3 := after_chunk x0 x1 x2 x3 6144 inb_S8192x32_S2048x32_6144_0 inb_S1x8192_S1x2048_0_6144 (by decide) r
  obtain ⟨k, hk, -, hi⟩ := ((c0.append c1).append c2).append c3
  refine ⟨k, hk, ?_⟩
  rw [index_spelt]
  unfold arg4 arg3 arg2 min3 min2
  simp only [select_keeps]
  exact hi

end Spelt

/-! ## The codes of a block -/

/-- The sum of a chunk's codes with a row of ones and zeros: the code of that number where the chunk holds it, and zero elsewhere. -/
theorem oneHot_sum (x2 : Vec Ideal S8192x32 .f32) (o : Nat) (h2 : ∀ a, ![o, 0] a + S2048x32.size a ≤ S8192x32.size a)
    (ho : o + 2048 ≤ 8192) (i : IVec S512x1 32)
    (r : Fin 512) (k : Fin 8192) (hi : i (ix2 r 0) = BitVec.ofNat 32 k.val) (d : Fin 32) :
    (∑ j : Fin 2048, (oneHot (BitVec.ofNat 32 o) i (ix2 r j) : EReal) * codes x2 o h2 (ix2 j d))
      = if o ≤ k.val ∧ k.val < o + 2048 then (x2 (ix2 k d) : EReal) else 0 := by
  have hj (j : Fin 2048) : (oneHot (BitVec.ofNat 32 o) i (ix2 r j) : EReal) * codes x2 o h2 (ix2 j d)
      = if k.val = o + j.val then (x2 (ix2 k d) : EReal) else 0 := by
    rw [oneHot_apply, hi, ← BitVec.ofNat_add, codes_apply x2 o h2 j (by omega) d]
    have hiff : BitVec.ofNat 32 k.val = BitVec.ofNat 32 (j.val + o) ↔ k.val = o + j.val := by
      rw [← BitVec.toNat_inj, BitVec.toNat_ofNat, BitVec.toNat_ofNat]; omega
    by_cases h : k.val = o + j.val
    · rw [if_pos (hiff.2 h), if_pos h, one_mul]
      exact congrArg x2 (congrArg (ix2 · d) (Fin.ext h.symm))
    · rw [if_neg (mt hiff.1 h), if_neg h, zero_mul]
  rw [Finset.sum_congr rfl fun j _ => hj j]
  split
  next h =>
    rw [Finset.sum_eq_single ⟨k.val - o, by omega⟩]
    · rw [if_pos]; show k.val = o + (k.val - o); omega
    · intro j _ hne
      rw [if_neg]
      intro e
      exact hne (Fin.ext (by show j.val = k.val - o; omega))
    · intro h; exact absurd (Finset.mem_univ _) h
  next h =>
    refine Finset.sum_eq_zero fun j _ => if_neg fun e => h ?_
    have := j.isLt
    omega

section Store
variable (x0 : Vec Ideal S512x32 .f32) (x1 : Vec Ideal S512x1 .f32) (x2 : Vec Ideal S8192x32 .f32) (x3 : Vec Ideal S1x8192 .f32)

/-- What the block stores at the first result: the rows and the codes found, put together. -/
def stored : FVec Ideal S512x32 .f32 :=
  k0_pay1 (k0_pay2 (View.ld x0 r0_0)) (k0_pay13 (k0_pay15 x0 x1 x2 x3) (View.ld x2 r0_2) (View.ld x2 r0_4) (View.ld x2 r0_6)) (View.ld x2 r0_8) (k0_pay14 (F := Ideal) (k0_pay15 x0 x1 x2 x3)) (constant S512x32 .f32 0x00000000#32)

/-- The product of a chunk's codes with the rows of ones and zeros. -/
def picked (i : IVec S512x1 32) (o : Nat) (h2 : ∀ a, ![o, 0] a + S2048x32.size a ≤ S8192x32.size a) : FVec Ideal S512x32 .f32 :=
  matmul (φ₂ := .f32) dot_S512x2048_S2048x32_S512x32_1_0_0_1_n_n none (oneHot (BitVec.ofNat 32 o) i) (codes x2 o h2) (constant S512x32 .f32 0x00000000#32)

/-- The product at a row is the code that the index names where the chunk holds it, and zero elsewhere. -/
theorem picked_apply (i : IVec S512x1 32) (o : Nat) (h2 : ∀ a, ![o, 0] a + S2048x32.size a ≤ S8192x32.size a)
    (ho : o + 2048 ≤ 8192) (r : Fin 512) (k : Fin 8192) (hi : i (ix2 r 0) = BitVec.ofNat 32 k.val) (d : Fin 32) :
    picked x2 i o h2 (ix2 r d) = if o ≤ k.val ∧ k.val < o + 2048 then (x2 (ix2 k d) : EReal) else 0 := by
  unfold picked
  pointwise
  exact oneHot_sum x2 o h2 ho i r k hi d

/-- The stored block, spelt through the chunks. -/
theorem stored_spelt : stored x0 x1 x2 x3
    = addf (k0_pay2 (View.ld x0 r0_0)) (subf
        (addf (addf (addf (addf (broadcast S512x32 (Scalar.ofBits .f32 0x00000000#32))
          (picked x2 (k0_pay15 x0 x1 x2 x3) 0 inb_S8192x32_S2048x32_0_0))
          (picked x2 (k0_pay15 x0 x1 x2 x3) 2048 inb_S8192x32_S2048x32_2048_0))
          (picked x2 (k0_pay15 x0 x1 x2 x3) 4096 inb_S8192x32_S2048x32_4096_0))
          (picked x2 (k0_pay15 x0 x1 x2 x3) 6144 inb_S8192x32_S2048x32_6144_0))
        (k0_pay2 (View.ld x0 r0_0))) := rfl

/-- The stored block at a row whose index is `k`: the row and the difference of code `k` from it. -/
theorem stored_apply (r : Fin 512) (k : Fin 8192) (hi : k0_pay15 x0 x1 x2 x3 (ix2 r 0) = BitVec.ofNat 32 k.val) (d : Fin 32) :
    stored x0 x1 x2 x3 (ix2 r d) = (x0 (ix2 r d) : EReal) + ((x2 (ix2 k d) : EReal) - x0 (ix2 r d)) := by
  have e0 : View.ld (Val := Elt Ideal) x0 r0_0 = x0 := View.ld_unit_lit _ _ (by decide)
  rw [stored_spelt, e0]
  unfold k0_pay2
  pointwise
  have hk := k.isLt
  rw [picked_apply x2 _ 0 _ (by decide) r k hi d, picked_apply x2 _ 2048 _ (by decide) r k hi d,
    picked_apply x2 _ 4096 _ (by decide) r k hi d, picked_apply x2 _ 6144 _ (by decide) r k hi d]
  have hs : (if 0 ≤ k.val ∧ k.val < 0 + 2048 then (x2 (ix2 k d) : EReal) else 0)
      + (if 2048 ≤ k.val ∧ k.val < 2048 + 2048 then (x2 (ix2 k d) : EReal) else 0)
      + (if 4096 ≤ k.val ∧ k.val < 4096 + 2048 then (x2 (ix2 k d) : EReal) else 0)
      + (if 6144 ≤ k.val ∧ k.val < 6144 + 2048 then (x2 (ix2 k d) : EReal) else 0) = x2 (ix2 k d) := by
    rcases (by omega : k.val < 2048 ∨ (2048 ≤ k.val ∧ k.val < 4096) ∨ (4096 ≤ k.val ∧ k.val < 6144) ∨ 6144 ≤ k.val) with h | h | h | h
    · rw [if_pos (by omega), if_neg (by omega), if_neg (by omega), if_neg (by omega)]; simp only [add_zero]
    · rw [if_neg (by omega), if_pos (by omega), if_neg (by omega), if_neg (by omega)]; simp only [add_zero, zero_add]
    · rw [if_neg (by omega), if_neg (by omega), if_pos (by omega), if_neg (by omega)]; simp only [add_zero, zero_add]
    · rw [if_neg (by omega), if_neg (by omega), if_neg (by omega), if_pos (by omega)]; simp only [zero_add]
  rw [hs]

end Store

end Cert.KernelIdeal.Block

end
-- ==== Proof.KernelArray.lean ====
/-
  THE KERNEL'S ARRAYS, hand-written and untrusted.

  What the region leaves in its two result arrays, as functions of the four arrays that it reads: at each row the first of
  the nearest codes, and the row put together with that code. Each point writes its block of these functions
  (Proof/KernelBlock), and the blocks cover the arrays.
-/
module

public import proofs.«01_k».proof.Proof.KernelBlock

@[expose] public section

set_option maxRecDepth 16384

noncomputable section

namespace Cert.KernelIdeal.Arrays

open Cert.KernelIdeal Cert.KernelIdeal.Gen Cert.KernelIdeal.Block Cert.Proof.ArgMin
open Idealize.ShloMosaic Idealize.ShloMosaic.TcCoe Idealize.ShloMosaic.Pipeline Idealize.SL.Sem

/-! ## The results as functions of the arrays that the region reads -/

/-- The first place of the least value of a row. -/
def first (f : Fin 8192 → EReal) : Fin 8192 := Classical.choose (exists_isFirstMin (by decide) f)

/-- It is that place. -/
theorem first_isFirstMin (f : Fin 8192 → EReal) : IsFirstMin f (first f) := Classical.choose_spec (exists_isFirstMin (by decide) f)

section Results
variable (z : Vec Ideal S8192x32 .f32) (zn : Vec Ideal S8192x1 .f32) (cb : Vec Ideal S8192x32 .f32) (cn : Vec Ideal S1x8192 .f32)

/-- The distance of a row to a code. -/
def arrDist (R n : Fin 8192) : EReal :=
  ((zn (ix2 R 0) : EReal) + cn (ix2 0 n))
    - FloatOps.ofBits (F := Ideal) .f32 0x40000000#32 * ∑ d : Fin 32, (z (ix2 R d) : EReal) * cb (ix2 n d)

/-- The code found for a row. -/
def code (R : Fin 8192) : Fin 8192 := first (arrDist z zn cb cn R)

/-- The array of indices. -/
def outI : Vec Ideal S8192x1 .i32 := fun i => BitVec.ofNat 32 (code z zn cb cn (i 0)).val

/-- The array of rows with the codes put in. -/
def outQ : Vec Ideal S8192x32 .f32 := fun i => (z i : EReal) + ((cb (ix2 (code z zn cb cn (i 0)) (i 1)) : EReal) - z i)

end Results

/-! ## The blocks of the arrays -/

variable (m : (ℓ : Loc nD τ sig) → Buf (Elt Ideal) ℓ) (c : Dev nD)

/-- Window 0 reads at point `t` the block of rows number `t`, -/
theorem e0 : ∀ t : Fin cfg0.N, win0_0.index t = ![t.val, 0] := (by decide +kernel : ∀ t : Fin grid0.N, _)
/-- window 1 the same rows' squared lengths, -/
theorem e1 : ∀ t : Fin cfg0.N, win0_1.index t = ![t.val, 0] := (by decide +kernel : ∀ t : Fin grid0.N, _)
/-- window 2 the whole codebook, -/
theorem e2 : ∀ t : Fin cfg0.N, win0_2.index t = ![0, 0] := (by decide +kernel : ∀ t : Fin grid0.N, _)
/-- window 3 the squared lengths of all codes; -/
theorem e3 : ∀ t : Fin cfg0.N, win0_3.index t = ![0, 0] := (by decide +kernel : ∀ t : Fin grid0.N, _)
/-- window 4 writes the block of rows number `t`, -/
theorem e4 : ∀ t : Fin cfg0.N, win0_4.index t = ![t.val, 0] := (by decide +kernel : ∀ t : Fin grid0.N, _)
/-- and window 5 the same rows' indices. -/
theorem e5 : ∀ t : Fin cfg0.N, win0_5.index t = ![t.val, 0] := (by decide +kernel : ∀ t : Fin grid0.N, _)

/-- There are sixteen points. -/
theorem point_lt (t : Fin cfg0.N) : t.val < 16 := (by decide +kernel : ∀ t : Fin grid0.N, t.val < 16) t

/-- The row of the arrays that is row `r` of point `t`'s block. -/
def row (t : Fin cfg0.N) (r : Fin 512) : Fin 8192 := ⟨t.val * 512 + r.val, by have := point_lt t; omega⟩

/-- The block of rows at a row and a channel. -/
theorem blk0 (t : Fin cfg0.N) (r : Fin 512) (d : Fin 32) : iblk m c 0 t (ix2 r d) = V m c main_v1 (ix2 (row t r) d) := by
  blk_simp [iblk]
  refine congrArg (V m c main_v1) ?_
  blk_ext [e0, row]

/-- The block of the rows' squared lengths at a row. -/
theorem blk1 (t : Fin cfg0.N) (r : Fin 512) : iblk m c 1 t (ix2 r 0) = V m c main_v4 (ix2 (row t r) 0) := by
  blk_simp [iblk]
  refine congrArg (V m c main_v4) ?_
  blk_ext [e1, row]

/-- The codebook, read whole. -/
theorem blk2 (t : Fin cfg0.N) (n : Fin 8192) (d : Fin 32) : iblk m c 2 t (ix2 n d) = V m c main_arg1 (ix2 n d) := by
  blk_simp [iblk]
  refine congrArg (V m c main_arg1) ?_
  blk_ext [e2]

/-- The codes' squared lengths, read whole. -/
theorem blk3 (t : Fin cfg0.N) (n : Fin 8192) : iblk m c 3 t (ix2 0 n) = V m c main_v7 (ix2 0 n) := by
  blk_simp [iblk]
  refine congrArg (V m c main_v7) ?_
  blk_ext [e3]

/-- A block's distances are the arrays'. -/
theorem rowDist_blk (t : Fin cfg0.N) (r : Fin 512) :
    rowDist (iblk m c 0 t) (iblk m c 1 t) (iblk m c 2 t) (iblk m c 3 t) r
      = arrDist (V m c main_v1) (V m c main_v4) (V m c main_arg1) (V m c main_v7) (row t r) := by
  funext n
  unfold rowDist arrDist
  rw [blk1, blk3]
  simp only [blk0, blk2]

/-- A block's indices are the arrays' codes. -/
theorem index_blk (t : Fin cfg0.N) (r : Fin 512) :
    k0_pay15 (iblk m c 0 t) (iblk m c 1 t) (iblk m c 2 t) (iblk m c 3 t) (ix2 r 0)
      = BitVec.ofNat 32 (code (V m c main_v1) (V m c main_v4) (V m c main_arg1) (V m c main_v7) (row t r)).val := by
  obtain ⟨k, hk, hi⟩ := index_apply (iblk m c 0 t) (iblk m c 1 t) (iblk m c 2 t) (iblk m c 3 t) r
  rw [rowDist_blk] at hk
  rw [hi, hk.unique (first_isFirstMin _)]
  rfl

/-! ## The result arrays after the region -/

/-- What a point stores, its whole block of rows being read as it is. -/
theorem stored_eq (x0 : Vec Ideal S512x32 .f32) (x1 : Vec Ideal S512x1 .f32) (x2 : Vec Ideal S8192x32 .f32) (x3 : Vec Ideal S1x8192 .f32) :
    stored x0 x1 x2 x3 = k0_pay1 (k0_pay2 x0)
      (k0_pay13 (k0_pay15 x0 x1 x2 x3) (View.ld x2 r0_2) (View.ld x2 r0_4) (View.ld x2 r0_6)) (View.ld x2 r0_8)
      (k0_pay14 (F := Ideal) (k0_pay15 x0 x1 x2 x3)) (constant S512x32 .f32 0x00000000#32) := by
  have w : View.ld (Val := Elt Ideal) x0 r0_0 = x0 := View.ld_unit_lit _ _ (by decide)
  unfold stored
  rw [w]

/-- The indices' array. -/
theorem final5 : (dats m 0 c).arrAt 5 cfg0.N = outI (V m c main_v1) (V m c main_v4) (V m c main_arg1) (V m c main_v7) := by
  refine (dats m 0 c).arrAt_eq_of_covers 5 _ (by decide +kernel) fun t hf y => ?_
  blk_simp
  rw [after0_5]
  frame_out
  obtain ⟨r, u, rfl⟩ : ∃ (r : Fin 512) (u : Fin 1), y = ix2 r u := ⟨y 0, y 1, (ix2_eta (n0 := 512) (n1 := 1) y).symm⟩
  obtain rfl : u = 0 := Subsingleton.elim _ _
  refine (index_blk m c t r).trans ?_
  have e : (((View.whole main_v8_1).slice (win0_5.rect t)).emb (ix2 r 0)) 0 = row t r := by
    refine Fin.ext ?_
    blk_simp [e5, row]
  exact congrArg (fun R => BitVec.ofNat 32 (code (V m c main_v1) (V m c main_v4) (V m c main_arg1) (V m c main_v7) R).val) e.symm

/-- The rows' array. -/
theorem final4 : (dats m 0 c).arrAt 4 cfg0.N = outQ (V m c main_v1) (V m c main_v4) (V m c main_arg1) (V m c main_v7) := by
  refine (dats m 0 c).arrAt_eq_of_covers 4 _ (by decide +kernel) fun t hf y => ?_
  blk_simp
  rw [after0_4]
  frame_out
  obtain ⟨r, d, rfl⟩ : ∃ (r : Fin 512) (d : Fin 32), y = ix2 r d := ⟨y 0, y 1, (ix2_eta (n0 := 512) (n1 := 32) y).symm⟩
  have h := stored_apply _ _ _ _ r _ (index_blk m c t r) d
  refine (congrFun (stored_eq _ _ _ _) _).symm.trans (h.trans ?_)
  rw [blk0, blk2]
  have e : (((View.whole main_v8_0).slice (win0_4.rect t)).emb (ix2 r d)) = ix2 (row t r) d := by
    blk_ext [e4, row]
  exact (congrArg (outQ (V m c main_v1) (V m c main_v4) (V m c main_arg1) (V m c main_v7)) e).symm

end Cert.KernelIdeal.Arrays

end
-- ==== Proof.KernelRun.lean ====
/-
  THE KERNEL'S RUN, hand-written and untrusted.

  What the host operations before the region put into the arrays that its blocks are read from, what the host operations
  after it make of the two result arrays, and the run of the whole program at those terms.
-/
module

public import proofs.«01_k».proof.Proof.KernelArray
public import Idealize.ShloMosaic.Lib.StableHlo.RunHlo
public import Idealize.ShloMosaic.Lib.Claim

@[expose] public section

set_option maxRecDepth 16384

noncomputable section

namespace Cert.KernelIdeal.Run

open Cert.KernelIdeal Cert.KernelIdeal.Gen Cert.KernelIdeal.Arrays
open Idealize.ShloMosaic Idealize.ShloMosaic.TcCoe Idealize.ShloMosaic.StableHlo Idealize.ShloMosaic.Pipeline Idealize.SL.Sem

/-- The rows: each position's vector of 32 channels, one position per row. -/
def rows (z : FVec Ideal S8x32x32x32 .f32) : FVec Ideal S8192x32 .f32 :=
  shapeCast S8192x32 (transpose S8x32x32x32 [0, 2, 3, 1] z transposes_S8x32x32x32_S8x32x32x32_0_2_3_1) shapeCasts_S8x32x32x32_S8192x32

/-- The squared length of every row, as a column. -/
def rowNorms (z : FVec Ideal S8x32x32x32 .f32) : FVec Ideal S8192x1 .f32 :=
  broadcastInDim S8192x1 ![0] bcast_S8192_S8192x1_0
    (Host.reduceAdd (mulf (rows z) (rows z)) (constant S_ .f32 0x00000000#32) reducesTo_S8192x32_S8192_d1 h_S_)

/-- The squared length of every code, as a row. -/
def codeNorms (cb : FVec Ideal S8192x32 .f32) : FVec Ideal S1x8192 .f32 :=
  shapeCast S1x8192 (Host.reduceAdd (mulf cb cb) (constant S_ .f32 0x00000000#32) reducesTo_S8192x32_S8192_d1 h_S_) shapeCasts_S8192_S1x8192

/-- The first result: the rows with the codes put in, in the shape of the input. -/
def resQ (z : FVec Ideal S8x32x32x32 .f32) (cb : FVec Ideal S8192x32 .f32) : FVec Ideal S8x32x32x32 .f32 :=
  transpose S8x32x32x32 [0, 3, 1, 2]
    (shapeCast S8x32x32x32 (outQ (rows z) (rowNorms z) cb (codeNorms cb)) shapeCasts_S8192x32_S8x32x32x32)
    transposes_S8x32x32x32_S8x32x32x32_0_3_1_2

/-- The second result: the codes' indices in the shape of the positions. -/
def resI (z : FVec Ideal S8x32x32x32 .f32) (cb : FVec Ideal S8192x32 .f32) : IVec S8x32x32 32 :=
  shapeCast S8x32x32 (outI (rows z) (rowNorms z) cb (codeNorms cb)) shapeCasts_S8192x1_S8x32x32

section Stages
variable (W : Valuation τ sig (Elt Ideal))

/-- The operations before the region leave the rows, -/
theorem rows_eq : after hostOps0 W (main_v1 : DevRef τ sig) = rows (W (main_arg0 : DevRef τ sig)) := by
  after_results
  rfl

/-- the rows' squared lengths, -/
theorem rowNorms_eq : after hostOps0 W (main_v4 : DevRef τ sig) = rowNorms (W (main_arg0 : DevRef τ sig)) := by
  after_results
  rfl

/-- and the codes' squared lengths. -/
theorem codeNorms_eq : after hostOps0 W (main_v7 : DevRef τ sig) = codeNorms (W (main_arg1 : DevRef τ sig)) := by
  after_results
  rfl

/-- The operations after the region leave the region's first result in the input's shape, -/
theorem tailQ_eq : after hostOps1 W (main_v10 : DevRef τ sig)
    = transpose S8x32x32x32 [0, 3, 1, 2]
        (shapeCast S8x32x32x32 (W (main_v8_0 : DevRef τ sig)) shapeCasts_S8192x32_S8x32x32x32)
        transposes_S8x32x32x32_S8x32x32x32_0_3_1_2 := by
  after_results
  rfl

/-- and its second in the shape of the positions. -/
theorem tailI_eq : after hostOps1 W (main_v11 : DevRef τ sig)
    = shapeCast S8x32x32 (W (main_v8_1 : DevRef τ sig)) shapeCasts_S8192x1_S8x32x32 := by
  after_results
  rfl

end Stages

variable (m : (ℓ : Loc nD τ sig) → Buf (Elt Ideal) ℓ) (ρ : Dev nD → PrngReg) (c : Dev nD)

/-- What the region finds in the array of rows. -/
theorem V_rows : V m c main_v1 = rows (m ((c : Thread nD τ).loc main_arg0)) := rows_eq fun b => m (c, b)
/-- What the region finds in the array of the rows' squared lengths. -/
theorem V_rowNorms : V m c main_v4 = rowNorms (m ((c : Thread nD τ).loc main_arg0)) := rowNorms_eq fun b => m (c, b)
/-- What the region finds in the array of the codes' squared lengths. -/
theorem V_codeNorms : V m c main_v7 = codeNorms (m ((c : Thread nD τ).loc main_arg1)) := codeNorms_eq fun b => m (c, b)

/-- No two windows of the region are of one array. -/
theorem windows_injective : Function.Injective (arrRef (cfgs 0).spec) := (by decide : Function.Injective (arrRef spec0))

/-- The first result at the end. -/
theorem final_resQ : Pipeline.afterTail₀ cfgs (dats m) 0 (V0 m) [hostOps1] c main_v10
    = resQ (m ((c : Thread nD τ).loc main_arg0)) (m ((c : Thread nD τ).loc main_arg1)) := by
  refine (tailQ_eq _).trans ?_
  have e := (withArrays_arr (cfgs 0).spec windows_injective c (V0 m c) (fun w => (dats m 0 c).arrAt w (cfgs 0).N) 4).trans (final4 m c)
  rw [V_rows, V_rowNorms, V_codeNorms, V_main_arg1] at e
  exact congrArg (fun x => transpose S8x32x32x32 [0, 3, 1, 2] (shapeCast S8x32x32x32 x shapeCasts_S8192x32_S8x32x32x32) transposes_S8x32x32x32_S8x32x32x32_0_3_1_2) e

/-- The second result at the end. -/
theorem final_resI : Pipeline.afterTail₀ cfgs (dats m) 0 (V0 m) [hostOps1] c main_v11
    = resI (m ((c : Thread nD τ).loc main_arg0)) (m ((c : Thread nD τ).loc main_arg1)) := by
  refine (tailI_eq _).trans ?_
  have e := (withArrays_arr (cfgs 0).spec windows_injective c (V0 m c) (fun w => (dats m 0 c).arrAt w (cfgs 0).N) 5).trans (final5 m c)
  rw [V_rows, V_rowNorms, V_codeNorms, V_main_arg1] at e
  exact congrArg (fun x => shapeCast S8x32x32 x shapeCasts_S8192x1_S8x32x32) e

/-- The whole program ends with the two results at their terms and the arguments unchanged. -/
theorem run : θ_run defs (onTc (τ := τ) (main (F := Ideal))) ⟨m, fun _ => 0, ρ⟩ fun r => ∀ c : Dev nD,
      r.2.mem ((c.tc : Thread nD τ).loc main_v10) = resQ (m ((c.tc : Thread nD τ).loc main_arg0)) (m ((c.tc : Thread nD τ).loc main_arg1))
      ∧ r.2.mem ((c.tc : Thread nD τ).loc main_v11) = resI (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h.1 c).2 main_v10 (Pipeline.mem_restRefs_of main_v10 (by decide) (by decide))).trans (final_resQ m c),
      ((h.1 c).2 main_v11 (Pipeline.mem_restRefs_of main_v11 (by decide) (by decide))).trans (final_resI m c), h.2 c⟩)
    (θ_run_and (run_main m ρ) (unchanged m ρ))

end Cert.KernelIdeal.Run

end
-- ==== Proof.RefRun.lean ====
/-
  THE REFERENCE'S RUN, hand-written and untrusted.

  The reference's operations in four groups (the distances, the search for the nearest code, the lookup, what follows),
  what each group leaves at the arrays that later groups read, and the run of the whole program at those terms.
-/
module

public import proofs.«01_k».proof.Proof.Gen.ReferenceIdeal
public import Idealize.ShloMosaic.Lib.StableHlo.RunHlo
public import Idealize.ShloMosaic.Lib.Pipeline.Frame
public import Idealize.ShloMosaic.Lib.Claim
public import Idealize.ShloMosaic.Lib.Quiescent

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-- The rows: each position's vector of 32 channels, one position per row. -/
def rows (z : FVec F S8x32x32x32 .f32) : FVec F S8192x32 .f32 :=
  shapeCast S8192x32 (transpose S8x32x32x32 [0, 2, 3, 1] z transposes_S8x32x32x32_S8x32x32x32_0_2_3_1) shapeCasts_S8x32x32x32_S8192x32

/-- The squared distance of every row to every code, as the reference computes it. -/
def dist (z : FVec F S8x32x32x32 .f32) (cb : FVec F S8192x32 .f32) : FVec F S8192x8192 .f32 :=
  subf
    (addf
      (broadcastInDim S8192x8192 ![0, 1] bcast_S8192x1_S8192x8192_0_1
        (broadcastInDim S8192x1 ![0] bcast_S8192_S8192x1_0
          (Host.reduceAdd (mulf (rows z) (rows z)) (constant S_ .f32 0x00000000#32) reducesTo_S8192x32_S8192_d1 h_S_)))
      (broadcastInDim S8192x8192 ![0, 1] bcast_S1x8192_S8192x8192_0_1
        (broadcastInDim S1x8192 ![1] bcast_S8192_S1x8192_1
          (Host.reduceAdd (mulf cb cb) (constant S_ .f32 0x00000000#32) reducesTo_S8192x32_S8192_d1 h_S_))))
    (mulf (broadcastInDim S8192x8192 ![] bcast_S_S8192x8192 (constant S_ .f32 0x40000000#32))
      (Host.dotGeneral dot_S8192x32_S32x8192_S8192x8192_1_0_0_1_n_n none (rows z)
        (transpose S32x8192 [1, 0] cb transposes_S8192x32_S32x8192_1_0)))

/-- The index of the nearest code of every row: the reduction of (distance, index) pairs along each row of distances. -/
def nearest (d : FVec F S8192x8192 .f32) : IVec S8192 32 := fun j =>
  (Host.argReduce reducer_argmin_f32_i32 d (iotaInDim S8192x8192 32 1) (constant S_ .f32 0x7F800000#32) (constantI S_ 32 0#32)
    reducesTo_S8192x8192_S8192_d1 h_S_ j).2

/-- An index below zero counts from the end. -/
def wrapped (i : IVec S8192 32) : IVec S8192x1 32 :=
  broadcastInDim S8192x1 ![0] bcast_S8192_S8192x1_0
    (select (cmpi .slt i (broadcastInDim S8192 ![] bcast_S_S8192 (constantI S_ 32 0#32)))
      (addi i (broadcastInDim S8192 ![] bcast_S_S8192 (constantI S_ 32 8192#32))) i)

/-- Whether each index is in range. -/
def inRange (w : IVec S8192x1 32) : IVec S8192 1 :=
  Host.reduce IntOp.andi
    (andi (cmpi .sge w (broadcastInDim S8192x1 ![] bcast_S_S8192x1 (constantI S_ 32 0#32)))
      (cmpi .sle w (broadcastInDim S8192x1 ![0, 1] bcast_S1x1_S8192x1_0_1
        (broadcastInDim S1x1 ![1] bcast_S1_S1x1_1 (constantI S1 32 8191#32)))))
    (constantI S_ 1 1#1) reducesTo_S8192x1_S8192_d1 h_S_

/-- The codes at the given indices, one per row; a NaN pattern's value where an index is out of range. -/
def taken (cb : FVec F S8192x32 .f32) (i : IVec S8192 32) : FVec F S8192x32 .f32 :=
  select (broadcastInDim S8192x32 ![0] bcast_S8192_S8192x32_0 (inRange (wrapped i)))
    (Host.gather gather_S8192x32_S8192x1_S8192x32_1_0_n_n_0_1_132 cb (wrapped i))
    (broadcastInDim S8192x32 ![] bcast_S_S8192x32 (constant S_ .f32 0x7FC00000#32))

/-- The first result: the straight-through sum of the input and the nearest codes, channels moved back. -/
def resQ (z : FVec F S8x32x32x32 .f32) (cb : FVec F S8192x32 .f32) : FVec F S8x32x32x32 .f32 :=
  transpose S8x32x32x32 [0, 3, 1, 2]
    (addf (transpose S8x32x32x32 [0, 2, 3, 1] z transposes_S8x32x32x32_S8x32x32x32_0_2_3_1)
      (subf (shapeCast S8x32x32x32 (taken cb (nearest (dist z cb))) shapeCasts_S8192x32_S8x32x32x32)
        (transpose S8x32x32x32 [0, 2, 3, 1] z transposes_S8x32x32x32_S8x32x32x32_0_2_3_1)))
    transposes_S8x32x32x32_S8x32x32x32_0_3_1_2

/-- The second result: the indices of the nearest codes. -/
def resI (z : FVec F S8x32x32x32 .f32) (cb : FVec F S8192x32 .f32) : IVec S8x32x32 32 :=
  shapeCast S8x32x32 (nearest (dist z cb)) shapeCasts_S8192_S8x32x32

/-- The operations up to the distances. -/
abbrev opsDist : List (HloOp τ sig (Elt F)) :=
  [ unary main_arg0 main_v0 ((transpose S8x32x32x32 [0, 2, 3, 1] · transposes_S8x32x32x32_S8x32x32x32_0_2_3_1)),
    reshape main_v0 main_v1 (rfl : (.f32 : EltTy) = .f32) shapeCasts_S8x32x32x32_S8192x32,
    binary main_v1 main_v1 main_v2 (mulf),
    nullary main_cst (constant S_ .f32 0x00000000#32),
    binary main_v2 main_cst main_v3 ((fun x v => Host.reduceAdd x v reducesTo_S8192x32_S8192_d1 h_S_)),
    unary main_v3 main_v4 (broadcastInDim S8192x1 ![0] bcast_S8192_S8192x1_0),
    binary main_arg1 main_arg1 main_v5 (mulf),
    nullary main_cst_0 (constant S_ .f32 0x00000000#32),
    binary main_v5 main_cst_0 main_v6 ((fun x v => Host.reduceAdd x v reducesTo_S8192x32_S8192_d1 h_S_)),
    unary main_v6 main_v7 (broadcastInDim S1x8192 ![1] bcast_S8192_S1x8192_1),
    unary main_v4 main_v8 (broadcastInDim S8192x8192 ![0, 1] bcast_S8192x1_S8192x8192_0_1),
    unary main_v7 main_v9 (broadcastInDim S8192x8192 ![0, 1] bcast_S1x8192_S8192x8192_0_1),
    binary main_v8 main_v9 main_v10 (addf),
    unary main_arg1 main_v11 ((transpose S32x8192 [1, 0] · transposes_S8192x32_S32x8192_1_0)),
    binary main_v1 main_v11 main_v12 ((fun l r => Host.dotGeneral dot_S8192x32_S32x8192_S8192x8192_1_0_0_1_n_n none l r)),
    nullary main_cst_1 (constant S_ .f32 0x40000000#32),
    unary main_cst_1 main_v13 (broadcastInDim S8192x8192 ![] bcast_S_S8192x8192),
    binary main_v13 main_v12 main_v14 (mulf),
    binary main_v10 main_v14 main_v15 (subf) ]

/-- The operations of the search for the nearest code. -/
abbrev opsNearest : List (HloOp τ sig (Elt F)) :=
  [ TRef.nullary main_call0.v0 (iotaInDim S8192x8192 32 1),
    TRef.nullary main_call0.cst (constant S_ .f32 0x7F800000#32),
    TRef.nullary main_call0.c (constantI S_ 32 0#32),
    TRef.quaternary (.of main_v15) main_call0.v0 main_call0.cst main_call0.c main_call0.v1_0 (fun x y u v j => (Host.argReduce reducer_argmin_f32_i32 x y u v reducesTo_S8192x8192_S8192_d1 h_S_ j).1),
    TRef.quaternary (.of main_v15) main_call0.v0 main_call0.cst main_call0.c main_call0.v1_1 (fun x y u v j => (Host.argReduce reducer_argmin_f32_i32 x y u v reducesTo_S8192x8192_S8192_d1 h_S_ j).2) ]

/-- The operations of the lookup. -/
abbrev opsTaken : List (HloOp τ sig (Elt F)) :=
  [ TRef.nullary main_call1.c (constantI S_ 32 0#32),
    TRef.unary main_call1.c main_call1.v0 (broadcastInDim S8192 ![] bcast_S_S8192),
    TRef.binary (.of main_v16) main_call1.v0 main_call1.v1 (cmpi .slt),
    TRef.nullary main_call1.c_0 (constantI S_ 32 8192#32),
    TRef.unary main_call1.c_0 main_call1.v2 (broadcastInDim S8192 ![] bcast_S_S8192),
    TRef.binary (.of main_v16) main_call1.v2 main_call1.v3 addi,
    TRef.ternary main_call1.v1 main_call1.v3 (.of main_v16) main_call1_call0.v0 select,
    TRef.unary main_call1.call0.v0 main_call1.v5 (broadcastInDim S8192x1 ![0] bcast_S8192_S8192x1_0),
    TRef.nullary main_call1.c_1 (constantI S1 32 8191#32),
    TRef.nullary main_call1.c_2 (constantI S_ 32 0#32),
    TRef.unary main_call1.c_2 main_call1.v6 (broadcastInDim S8192x1 ![] bcast_S_S8192x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S8192x1 ![0, 1] bcast_S1x1_S8192x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S8192x1_S8192_d1 h_S_),
    TRef.binary (.of main_arg1) main_call1.v5 main_call1.v13 (fun x i => Host.gather gather_S8192x32_S8192x1_S8192x32_1_0_n_n_0_1_132 x i),
    TRef.unary main_call1.v12 main_call1.v14 (broadcastInDim S8192x32 ![0] bcast_S8192_S8192x32_0),
    TRef.nullary main_call1.cst (constant S_ .f32 0x7FC00000#32),
    TRef.unary main_call1.cst main_call1.v15 (broadcastInDim S8192x32 ![] bcast_S_S8192x32),
    TRef.ternary main_call1.v14 main_call1.v13 main_call1.v15 main_call1.v16 select ]

/-- The operations after the lookup. -/
abbrev opsTail : List (HloOp τ sig (Elt F)) :=
  [ reshape main_v17 main_v18 (rfl : (.f32 : EltTy) = .f32) shapeCasts_S8192x32_S8x32x32x32,
    binary main_v18 main_v0 main_v19 (subf),
    binary main_v0 main_v19 main_v20 (addf),
    reshape main_v16 main_v21 (rfl : (.i32 : EltTy) = .i32) shapeCasts_S8192_S8x32x32,
    unary main_v20 main_v22 ((transpose S8x32x32x32 [0, 3, 1, 2] · transposes_S8x32x32x32_S8x32x32x32_0_3_1_2)) ]

/-- The program is the four groups of operations, one after another. -/
theorem main_eq (c : Dev nD) : main (F := F) c = seq (opsDist ++ (opsNearest ++ (opsTaken ++ opsTail))) := rfl

section Stages
variable (V : Valuation τ sig (Elt F))

/-- The first group leaves the distances of the arguments. -/
theorem dist_eq : after opsDist V (main_v15 : DevRef τ sig) = dist (V (main_arg0 : DevRef τ sig)) (V (main_arg1 : DevRef τ sig)) := by
  after_results
  rfl

/-- The first group leaves the input with its channels last. -/
theorem v0_eq : after opsDist V (main_v0 : DevRef τ sig)
    = transpose S8x32x32x32 [0, 2, 3, 1] (V (main_arg0 : DevRef τ sig)) transposes_S8x32x32x32_S8x32x32x32_0_2_3_1 := by
  after_results
  try rfl

/-- The second group leaves the nearest codes of the distances. -/
theorem nearest_eq : after opsNearest V (main_v16 : DevRef τ sig) = nearest (V (main_v15 : DevRef τ sig)) := by
  after_results
  rfl

/-- The third group leaves the codes at the indices. -/
theorem taken_eq : after opsTaken V (main_v17 : DevRef τ sig) = taken (V (main_arg1 : DevRef τ sig)) (V (main_v16 : DevRef τ sig)) := by
  after_results
  simp -implicitDefEqProofs only [TRef.ofBuf_toBuf]
  rfl

/-- The last group leaves the straight-through sum at the first result, -/
theorem tailQ_eq : after opsTail V (main_v22 : DevRef τ sig)
    = transpose S8x32x32x32 [0, 3, 1, 2]
        (addf (V (main_v0 : DevRef τ sig))
          (subf (shapeCast S8x32x32x32 (V (main_v17 : DevRef τ sig)) shapeCasts_S8192x32_S8x32x32x32) (V (main_v0 : DevRef τ sig))))
        transposes_S8x32x32x32_S8x32x32x32_0_3_1_2 := by
  after_results
  rfl

/-- and the indices in the shape of the positions at the second. -/
theorem tailI_eq : after opsTail V (main_v21 : DevRef τ sig) = shapeCast S8x32x32 (V (main_v16 : DevRef τ sig)) shapeCasts_S8192_S8x32x32 := by
  after_results
  rfl

/-- No group writes the first argument. -/
theorem keep0 : after (opsDist ++ (opsNearest ++ (opsTaken ++ opsTail))) V (main_arg0 : DevRef τ sig) = V (main_arg0 : DevRef τ sig) := by
  simp only [after_append]; after_results
/-- No group writes the second argument, -/
theorem keep1 : after (opsDist ++ (opsNearest ++ (opsTaken ++ opsTail))) V (main_arg1 : DevRef τ sig) = V (main_arg1 : DevRef τ sig) := by
  simp only [after_append]; after_results
/-- not by the first group, -/
theorem distKeep1 : after opsDist V (main_arg1 : DevRef τ sig) = V (main_arg1 : DevRef τ sig) := by after_results
/-- nor by the second; -/
theorem nearestKeep1 : after opsNearest V (main_arg1 : DevRef τ sig) = V (main_arg1 : DevRef τ sig) := by after_results
/-- the second group leaves the input with its channels last, -/
theorem nearestKeepV0 : after opsNearest V (main_v0 : DevRef τ sig) = V (main_v0 : DevRef τ sig) := by after_results
/-- the third leaves it too, -/
theorem takenKeepV0 : after opsTaken V (main_v0 : DevRef τ sig) = V (main_v0 : DevRef τ sig) := by after_results
/-- and the indices. -/
theorem takenKeepV16 : after opsTaken V (main_v16 : DevRef τ sig) = V (main_v16 : DevRef τ sig) := by after_results

/-- The whole program leaves the first result's term of the arguments, -/
theorem resQ_eq : after (opsDist ++ (opsNearest ++ (opsTaken ++ opsTail))) V (main_v22 : DevRef τ sig)
    = resQ (V (main_arg0 : DevRef τ sig)) (V (main_arg1 : DevRef τ sig)) := by
  rw [after_append, after_append, after_append, tailQ_eq, taken_eq, takenKeepV0, nearestKeepV0, nearestKeep1, nearest_eq,
    distKeep1, v0_eq, dist_eq]
  rfl

/-- and the second's. -/
theorem resI_eq : after (opsDist ++ (opsNearest ++ (opsTaken ++ opsTail))) V (main_v21 : DevRef τ sig)
    = resI (V (main_arg0 : DevRef τ sig)) (V (main_arg1 : DevRef τ sig)) := by
  rw [after_append, after_append, after_append, tailI_eq, takenKeepV16, nearest_eq, dist_eq]
  rfl

end Stages

/-- The run: both result arrays at the terms above of the launched arguments, the arguments unchanged. -/
theorem run : θ_run defs (onTc (τ := τ) (main (F := F))) ⟨m, fun _ => 0, ρ⟩ fun r => ∀ c : Dev nD,
      r.2.mem ((c.tc : Thread nD τ).loc main_v22) = resQ (m ((c.tc : Thread nD τ).loc main_arg0)) (m ((c.tc : Thread nD τ).loc main_arg1))
      ∧ r.2.mem ((c.tc : Thread nD τ).loc main_v21) = resI (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono
    (run_hlo defs main (ops := opsDist ++ (opsNearest ++ (opsTaken ++ opsTail))) main_eq (by decide) (by decide) (by simp)
      (by intro _ h; (repeat (cases h with | head => rfl | tail _ h => ?_)); exact nomatch h) m ρ)
    fun _ h c => ⟨(h c main_v22).trans (resQ_eq _), (h c main_v21).trans (resI_eq _), (h c main_arg0).trans (keep0 _),
      (h c main_arg1).trans (keep1 _)⟩

end Cert.ReferenceIdeal.Run

end
-- ==== Proof.RefValue.lean ====
/-
  THE REFERENCE AT AN ELEMENT, hand-written and untrusted.

  The reference's distance of a row to a code (`dist_apply`); its reduction of (distance, index) pairs, whose index is the
  first place of the least distance (`nearest_apply`); and its lookup, which at an index in range is the code there
  (`taken_apply`).
-/
module

public import proofs.«01_k».proof.Proof.RefRun
public import proofs.«01_k».proof.Proof.ArgMin
public import Idealize.ShloMosaic.Lib.Routing.Ops

@[expose] public section

set_option maxRecDepth 16384

noncomputable section

namespace Cert.ReferenceIdeal.Run

open Cert.ReferenceIdeal Cert.ReferenceIdeal.Gen Cert.Proof.ArgMin
open Idealize.ShloMosaic Idealize.ShloMosaic.TcCoe

/-! ## The reduction of (value, index) pairs -/

/-- The pair `a` comes before the pair `b`: a smaller value, or the same value at a smaller index. -/
def Before (a b : EReal × BitVec 32) : Prop := a.1 < b.1 ∨ a.1 = b.1 ∧ a.2.toInt < b.2.toInt

/-- The reducer keeps the one of two pairs that comes before the other. -/
theorem reducer_eq (a b : EReal × BitVec 32) [Decidable (Before a b)] :
    reducer_argmin_f32_i32 (F := Ideal) a b = if Before a b then a else b := by
  obtain ⟨a1, a2⟩ := a
  obtain ⟨b1, b2⟩ := b
  unfold reducer_argmin_f32_i32 Before
  rcases lt_trichotomy a1 b1 with h | h | h
  · simp [Ideal.cmpf_def, Ideal.cmp, IntOp.ori, IntOp.andi, IntOp.cmpi, Scalar.select, h, h.ne]
  · by_cases h2 : a2.toInt < b2.toInt <;>
      simp [Ideal.cmpf_def, Ideal.cmp, IntOp.ori, IntOp.andi, IntOp.cmpi, Scalar.select, BitVec.slt, h, h2]
  · simp [Ideal.cmpf_def, Ideal.cmp, IntOp.ori, IntOp.andi, IntOp.cmpi, Scalar.select, h.ne', not_lt.mpr h.le]

/-- The fold of a list of pairs by the reducer is one of them (or the initial pair), and none of them comes before it. -/
theorem foldl_reducer : ∀ (L : List (EReal × BitVec 32)) (a : EReal × BitVec 32),
    (L.foldl (reducer_argmin_f32_i32 (F := Ideal)) a ∈ a :: L)
      ∧ ∀ q ∈ a :: L, ¬ Before q (L.foldl (reducer_argmin_f32_i32 (F := Ideal)) a)
  | [], a => by
    refine ⟨List.mem_singleton.2 rfl, fun q hq => ?_⟩
    rw [List.mem_singleton.1 hq]
    rintro (h | h)
    · exact lt_irrefl _ h
    · exact lt_irrefl _ h.2
  | b :: L, a => by
    classical
    obtain ⟨h1, h2⟩ := foldl_reducer L (reducer_argmin_f32_i32 (F := Ideal) a b)
    rw [List.foldl_cons]
    generalize hp : L.foldl (reducer_argmin_f32_i32 (F := Ideal)) (reducer_argmin_f32_i32 (F := Ideal) a b) = p at h1 h2 ⊢
    rw [reducer_eq] at h1 h2
    have hn : ∀ {x y z : EReal × BitVec 32}, Before x y → ¬ Before x z → ¬ Before y z := by
      rintro ⟨x1, x2⟩ ⟨y1, y2⟩ ⟨z1, z2⟩
      unfold Before
      dsimp only
      rintro (h | ⟨rfl, h⟩) h'
      · rintro (k | ⟨rfl, k⟩)
        · exact h' (.inl (h.trans k))
        · exact h' (.inl h)
      · rintro (k | ⟨rfl, k⟩)
        · exact h' (.inl k)
        · exact h' (.inr ⟨rfl, h.trans k⟩)
    have ht : ∀ {x y z : EReal × BitVec 32}, ¬ Before x y → ¬ Before y z → ¬ Before x z := by
      rintro ⟨x1, x2⟩ ⟨y1, y2⟩ ⟨z1, z2⟩
      unfold Before
      dsimp only
      intro h h'
      push Not at h h' ⊢
      refine ⟨h'.1.trans h.1, fun e => ?_⟩
      have e1 : y1 = z1 := le_antisymm (e ▸ h.1) h'.1
      exact (h'.2 e1).trans (h.2 (e.trans e1.symm))
    by_cases hab : Before a b
    · rw [if_pos hab] at h1 h2
      refine ⟨?_, fun q hq => ?_⟩
      · rcases List.mem_cons.1 h1 with h | h
        · exact List.mem_cons.2 (.inl h)
        · exact List.mem_cons.2 (.inr (List.mem_cons.2 (.inr h)))
      · rcases List.mem_cons.1 hq with rfl | hq
        · exact h2 _ List.mem_cons_self
        · rcases List.mem_cons.1 hq with rfl | hq
          · exact hn hab (h2 a List.mem_cons_self)
          · exact h2 _ (List.mem_cons.2 (.inr hq))
    · rw [if_neg hab] at h1 h2
      refine ⟨List.mem_cons.2 (.inr h1), fun q hq => ?_⟩
      rcases List.mem_cons.1 hq with rfl | hq
      · exact ht hab (h2 b List.mem_cons_self)
      · exact h2 _ hq

/-- The infinity the search starts from. -/
theorem inf_eq : (FloatOps.ofBits .f32 0x7F800000#32 : Ideal .f32) = (⊤ : EReal) := by
  show Ideal.ofBits .f32 0x7F800000#32 = ⊤
  simp [Ideal.ofBits, Ideal.ieee]

/-- The pairs that the reduction of a row goes over are the row's. -/
theorem mem_fiber {m n : Nat} (h : (⟨2, ![m, n]⟩ : Shape).ReducesTo [1] ⟨1, ![m]⟩) (x : (⟨2, ![m, n]⟩ : Shape).Idx → EReal)
    (y : (⟨2, ![m, n]⟩ : Shape).Idx → BitVec 32) (r : Fin m) (q : EReal × BitVec 32) :
    q ∈ Host.argReduceFiber x y h (ix1 r) ↔ ∃ j : Fin n, q = (x (ix2 r j), y (ix2 r j)) := by
  unfold Host.argReduceFiber
  simp only [List.mem_map, List.mem_filter, List.mem_finRange, true_and, decide_eq_true_eq]
  constructor
  · rintro ⟨i, hi, rfl⟩
    obtain ⟨j, hj⟩ := (h.fiber_r2_a1 (ix1 r) _).1 hi
    exact ⟨j, by rw [← hj]; rfl⟩
  · rintro ⟨j, rfl⟩
    refine ⟨(⟨2, ![m, n]⟩ : Shape).rowMajor (ix2 r j), ?_, ?_⟩
    · rw [Equiv.symm_apply_apply]; exact (h.fiber_r2_a1 (ix1 r) _).2 ⟨j, rfl⟩
    · rw [Equiv.symm_apply_apply]

/-- Of pairs numbered in order, from the greatest value at number zero, the fold keeps the number of the first least value. -/
theorem foldl_reducer_row {n : Nat} (hn : n < 2 ^ 31) (f : Fin n → EReal) (k : Fin n) (hk : IsFirstMin f k) (L : List (EReal × BitVec 32))
    (hL : ∀ q, q ∈ L ↔ ∃ j : Fin n, q = (f j, BitVec.ofNat 32 j.val)) :
    (L.foldl (reducer_argmin_f32_i32 (F := Ideal)) (⊤, 0#32)).2 = BitVec.ofNat 32 k.val := by
  have hk' := isFirstMin_iff.1 hk
  have hint (j : Fin n) : (BitVec.ofNat 32 j.val).toInt = j.val := by
    have := j.isLt
    rw [BitVec.toInt_eq_toNat_of_lt] <;> simp only [BitVec.toNat_ofNat] <;> omega
  obtain ⟨h1, h2⟩ := foldl_reducer L (⊤, 0#32)
  generalize L.foldl (reducer_argmin_f32_i32 (F := Ideal)) (⊤, 0#32) = p at h1 h2 ⊢
  have hle (j : Fin n) : ¬ Before (f j, BitVec.ofNat 32 j.val) p := h2 _ (List.mem_cons.2 (.inr ((hL _).2 ⟨j, rfl⟩)))
  rcases List.mem_cons.1 h1 with rfl | h
  · have hall (j : Fin n) : f j = ⊤ := by
      by_contra hne
      exact hle j (.inl (lt_top_iff_ne_top.2 hne))
    have : k.val = 0 := by
      by_contra hne
      have h0 := hk'.2 ⟨0, by omega⟩ (Fin.lt_def.2 (Nat.pos_of_ne_zero hne))
      rw [hall, hall] at h0
      exact lt_irrefl _ h0
    rw [this]
  · obtain ⟨j, rfl⟩ := (hL p).1 h
    have : j = k := by
      refine FirstMinOn.unique (isFirstMin_iff.2 ⟨fun i => ?_, fun i hi => ?_⟩) hk
      · exact not_lt.mp fun hlt => hle i (.inl hlt)
      · refine lt_of_le_of_ne (not_lt.mp fun hlt => hle i (.inl hlt)) fun e => hle i (.inr ⟨e.symm, ?_⟩)
        rw [hint, hint]
        exact_mod_cast hi
    rw [this]

/-- The reduction of a row of values and their numbers, from the greatest value at number zero, ends at the number of
    the first least value. -/
theorem argReduce_row {m n : Nat} (hn : n < 2 ^ 31) (h : (⟨2, ![m, n]⟩ : Shape).ReducesTo [1] ⟨1, ![m]⟩)
    (x : FVec Ideal ⟨2, ![m, n]⟩ .f32) (y : IVec ⟨2, ![m, n]⟩ 32)
    (v : FVec Ideal S_ .f32) (w : IVec S_ 32) (hS : 0 < S_.numel)
    (hv : v (Shape.Idx.first hS) = (⊤ : EReal)) (hw : w (Shape.Idx.first hS) = 0#32)
    (r : Fin m) (hy : ∀ j, y (ix2 r j) = BitVec.ofNat 32 j.val) (k : Fin n) (hk : IsFirstMin (fun j => (x (ix2 r j) : EReal)) k)
    (g : IVec ⟨1, ![m]⟩ 32) (hg : g = fun i => (Host.argReduce reducer_argmin_f32_i32 x y v w h hS i).2) :
    g (ix1 r) = BitVec.ofNat 32 k.val := by
  subst hg
  dsimp only
  rw [Ideal.argReduce_eq_reduce2, Host.reduce2_eq_foldl_fiber, hv, hw]
  refine foldl_reducer_row hn _ k hk _ fun q => ?_
  refine (mem_fiber h x y r q).trans (exists_congr fun j => ?_)
  rw [hy]

/-- The reference's index of a row of distances is the first place of the least distance. -/
theorem nearest_apply (d : FVec Ideal S8192x8192 .f32) (r k : Fin 8192)
    (hk : IsFirstMin (fun n : Fin 8192 => (d (ix2 r n) : EReal)) k) : nearest d (ix1 r) = BitVec.ofNat 32 k.val := by
  exact argReduce_row (by decide) reducesTo_S8192x8192_S8192_d1 d (iotaInDim S8192x8192 32 1) (constant S_ .f32 0x7F800000#32)
    (constantI S_ 32 0#32) h_S_ inf_eq rfl r (fun j => rfl) k hk
    (nearest d) rfl

/-! ## The lookup -/

/-- At an index in range the lookup is the code of that number. -/
theorem taken_apply (cb : FVec Ideal S8192x32 .f32) (i : IVec S8192 32) (r k : Fin 8192) (d : Fin 32)
    (hi : i (ix1 r) = BitVec.ofNat 32 k.val) : taken cb i (ix2 r d) = cb (ix2 k d) := by
  have hint : (BitVec.ofNat 32 k.val).toInt = k.val := by
    have := k.isLt
    rw [BitVec.toInt_eq_toNat_of_lt] <;> simp only [BitVec.toNat_ofNat] <;> omega
  have hw : wrapped i (ix2 r (0 : Fin 1)) = BitVec.ofNat 32 k.val := by
    unfold wrapped
    pointwise
    rw [hi, show IntOp.cmpi .slt (BitVec.ofNat 32 k.val) 0#32 = 0#1 from ?_]
    · rfl
    · simp only [IntOp.cmpi, BitVec.slt, hint]
      simp [show ¬ ((k.val : Int) < 0) by omega]
  have hr : inRange (wrapped i) (ix1 r) = 1#1 := by
    unfold inRange
    pointwise
    rw [Finset.univ_unique, Finset.fold_singleton, Fin.default_eq_zero, hw]
    have hkb : k.val ≤ 8191 := by omega
    simp only [IntOp.cmpi, BitVec.sle, hint]
    simp [IntOp.andi, hkb]
  unfold taken
  pointwise
  rw [hr]
  exact Routing.gather_row gather_S8192x32_S8192x1_S8192x32_1_0_n_n_0_1_132 rfl rfl rfl rfl rfl cb (wrapped i) r d k hw (by decide)

/-- A distance, at a row and a code. -/
theorem dist_apply (z : FVec Ideal S8x32x32x32 .f32) (cb : FVec Ideal S8192x32 .f32) (r n : Fin 8192) :
    dist z cb (ix2 r n) = ((∑ d : Fin 32, rows z (ix2 r d) * rows z (ix2 r d)) + ∑ d : Fin 32, cb (ix2 n d) * cb (ix2 n d))
      - FloatOps.ofBits .f32 0x40000000#32 * ∑ d : Fin 32, rows z (ix2 r d) * cb (ix2 n d) := by
  unfold dist
  pointwise

end Cert.ReferenceIdeal.Run

end
-- ==== Proof.Equation.lean ====
/-
  THE TWO PROGRAMS' RESULTS ARE EQUAL, hand-written and untrusted.

  The distances that the kernel's blocks compare are the reference's; the code that is first among the nearest is then the
  same, and with it both results, position by position.
-/
module

public import proofs.«01_k».proof.Proof.KernelRun
public import proofs.«01_k».proof.Proof.RefValue

@[expose] public section

set_option maxRecDepth 16384

noncomputable section

namespace Cert.Proof.Equation

open Cert.KernelIdeal Cert.KernelIdeal.Arrays Cert.Proof.ArgMin
open Idealize.ShloMosaic

variable (z : FVec Ideal S8x32x32x32 .f32) (cb : FVec Ideal S8192x32 .f32)

/-- Both programs read the same rows. -/
theorem rows_eq : KernelIdeal.Run.rows z = ReferenceIdeal.Run.rows z := rfl

/-- The column of squared lengths at a row. -/
theorem rowNorms_apply (R : Fin 8192) :
    KernelIdeal.Run.rowNorms z (ix2 R 0) = ∑ d : Fin 32, (KernelIdeal.Run.rows z (ix2 R d) : EReal) * KernelIdeal.Run.rows z (ix2 R d) := by
  unfold KernelIdeal.Run.rowNorms
  generalize KernelIdeal.Run.rows z = x
  pointwise

/-- The row of squared lengths at a code. -/
theorem codeNorms_apply (n : Fin 8192) :
    KernelIdeal.Run.codeNorms cb (ix2 0 n) = ∑ d : Fin 32, (cb (ix2 n d) : EReal) * cb (ix2 n d) := by
  unfold KernelIdeal.Run.codeNorms
  pointwise

/-- The distances that the kernel compares are the reference's. -/
theorem arrDist_eq (R : Fin 8192) :
    arrDist (KernelIdeal.Run.rows z) (KernelIdeal.Run.rowNorms z) cb (KernelIdeal.Run.codeNorms cb) R
      = fun n => ReferenceIdeal.Run.dist z cb (ix2 R n) := by
  funext n
  rw [ReferenceIdeal.Run.dist_apply]
  unfold arrDist
  rw [rowNorms_apply, codeNorms_apply, rows_eq]

/-- The reference's index of a row is the code that the kernel finds. -/
theorem nearest_eq (R : Fin 8192) :
    ReferenceIdeal.Run.nearest (ReferenceIdeal.Run.dist z cb) (ix1 R)
      = BitVec.ofNat 32 (code (KernelIdeal.Run.rows z) (KernelIdeal.Run.rowNorms z) cb (KernelIdeal.Run.codeNorms cb) R).val := by
  refine ReferenceIdeal.Run.nearest_apply _ R _ ?_
  rw [← arrDist_eq]
  exact first_isFirstMin _

/-- A column and a vector of equal entries are equal in the shape of the positions. -/
theorem castI (x : IVec S8192x1 32) (y : IVec S8192 32) (hx : S8192x1.ShapeCasts S8x32x32) (hy : S8192.ShapeCasts S8x32x32)
    (h : ∀ R, x (ix2 R 0) = y (ix1 R)) : shapeCast S8x32x32 x hx = shapeCast S8x32x32 y hy := by
  funext i
  idx_vars i
  pointwise
  exact h _

/-- The second results are equal. -/
theorem resI_eq : KernelIdeal.Run.resI z cb = ReferenceIdeal.Run.resI z cb :=
  castI _ _ _ _ fun R => (nearest_eq z cb R).symm

/-- The kernel's row with the code put in, beside the reference's lookup. -/
theorem outQ_apply (R : Fin 8192) (d : Fin 32) :
    outQ (KernelIdeal.Run.rows z) (KernelIdeal.Run.rowNorms z) cb (KernelIdeal.Run.codeNorms cb) (ix2 R d)
      = (ReferenceIdeal.Run.rows z (ix2 R d) : EReal)
        + ((ReferenceIdeal.Run.taken cb (ReferenceIdeal.Run.nearest (ReferenceIdeal.Run.dist z cb)) (ix2 R d) : EReal)
          - ReferenceIdeal.Run.rows z (ix2 R d)) := by
  rw [ReferenceIdeal.Run.taken_apply cb _ R _ d (nearest_eq z cb R), ← rows_eq]
  rfl

/-- Rows put together from the input's rows and others are, in the shape of the input, put together there. -/
theorem castQ (z : FVec Ideal S8x32x32x32 .f32) (x y : FVec Ideal S8192x32 .f32)
    (ht : S8x32x32x32.Transposes [0, 2, 3, 1] S8x32x32x32) (hs : S8x32x32x32.ShapeCasts S8192x32)
    (hc : S8192x32.ShapeCasts S8x32x32x32) (hb : S8x32x32x32.Transposes [0, 3, 1, 2] S8x32x32x32)
    (h : ∀ R d, x (ix2 R d) = (shapeCast S8192x32 (transpose S8x32x32x32 [0, 2, 3, 1] z ht) hs (ix2 R d) : EReal)
      + ((y (ix2 R d) : EReal) - shapeCast S8192x32 (transpose S8x32x32x32 [0, 2, 3, 1] z ht) hs (ix2 R d))) :
    transpose S8x32x32x32 [0, 3, 1, 2] (shapeCast S8x32x32x32 x hc) hb
      = transpose S8x32x32x32 [0, 3, 1, 2] (addf (transpose S8x32x32x32 [0, 2, 3, 1] z ht)
          (subf (shapeCast S8x32x32x32 y hc) (transpose S8x32x32x32 [0, 2, 3, 1] z ht))) hb := by
  funext i
  idx_vars i
  pointwise
  rw [h]
  pointwise

/-- The first results are equal. -/
theorem resQ_eq : KernelIdeal.Run.resQ z cb = ReferenceIdeal.Run.resQ z cb :=
  castQ z _ _ _ _ _ _ (outQ_apply z cb)

end Cert.Proof.Equation

end
-- ==== Proof.lean ====
/-
  THE PROOF OF THE CLAIMS, hand-written and untrusted.

  The kernel's frames are the generated ones. The reference's frame and its results come from its run by groups of host
  operations (Proof/RefRun), read element by element in Proof/RefValue. The kernel's results come from what one block
  computes (Proof/KernelBlock), the blocks put together (Proof/KernelArray) and the host operations around the region
  (Proof/KernelRun). Proof/Equation shows the two programs' results equal.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_no_tie
public import proofs.«01_k».proof.Proof.Equation
public import Idealize.ShloMosaic.Adequacy
public import Idealize.ShloMosaic.Init

@[expose] public section

noncomputable section

namespace Cert.Proof

open Idealize.ShloMosaic Idealize.SL.Sem

/-- The reference runs, leaves its arguments unchanged, and has no semaphore that could be left up. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => (h c).2.2, sem_eq_zero_of_no_sems (by decide) r.2⟩) (Cert.ReferenceIdeal.Run.run m g)

/-- From equal arguments the kernel and the reference end with equal results. -/
theorem algebraic : Cert.algebraic_KernelIdeal_ReferenceIdeal := by
  intro m g m' g' _ hagree
  refine ⟨fun c => Cert.KernelIdeal.Run.resQ (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.KernelIdeal.Run.resI (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Run.run m g, (θ_run _ _ _).mono (fun r h c => ?_) (Cert.ReferenceIdeal.Run.run m' g')⟩
  obtain ⟨hQ, hI, h0, h1⟩ := h c
  obtain ⟨a0, a1⟩ := hagree c
  rw [a0, a1] at hQ hI
  exact ⟨hQ.trans (Equation.resQ_eq _ _).symm, hI.trans (Equation.resI_eq _ _).symm, h0, h1⟩

/-- All the claims. -/
theorem claim : Cert.Claim :=
  ⟨Cert.Kernel.Gen.facts, Cert.KernelIdeal.Gen.facts, Cert.ReferenceIdeal.Gen.facts, Cert.Pre_no_tie.Gen.facts,
    fun m ρ _ => Cert.Kernel.Gen.frame m ρ, fun m ρ _ => Cert.Kernel.Gen.frame m ρ, fun m ρ _ => Cert.KernelIdeal.Gen.frame m ρ,
    fun m ρ _ => reference_frame m ρ, fun m ρ _ => reference_frame m ρ, trivial, algebraic⟩

end Cert.Proof

end
